-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x4 : Shape := ⟨2, ![5000, 4]⟩
abbrev S5000 : Shape := ⟨1, ![5000]⟩
abbrev S5000x256 : Shape := ⟨2, ![5000, 256]⟩
abbrev S_ : Shape := ⟨0, ![]⟩
abbrev S5000x1 : Shape := ⟨2, ![5000, 1]⟩
abbrev S120 : Shape := ⟨1, ![120]⟩
abbrev S5120 : Shape := ⟨1, ![5120]⟩
abbrev S40x128 : Shape := ⟨2, ![40, 128]⟩
abbrev S30x128 : Shape := ⟨2, ![30, 128]⟩
abbrev S8x128 : Shape := ⟨2, ![8, 128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S30x1 : Shape := ⟨2, ![30, 1]⟩
abbrev S30 : Shape := ⟨1, ![30]⟩
abbrev S30x4 : Shape := ⟨2, ![30, 4]⟩
abbrev S30x256 : Shape := ⟨2, ![30, 256]⟩
abbrev S30x260 : Shape := ⟨2, ![30, 260]⟩

abbrev nBuf : Space → Nat
  | .hbm => 148
  | .vmem => 17
  | .smem => 0
  | _ => 0

abbrev hbmTy0_0 (i : Nat) : BufTy := match i % 128 with
  | 0 => ⟨S5000x4, .f32⟩
  | 1 => ⟨S5000, .f32⟩
  | 2 => ⟨S5000x256, .f32⟩
  | 3 => ⟨S5000, .i32⟩
  | 4 => ⟨S_, .f32⟩
  | 5 => ⟨S_, .f32⟩
  | 6 => ⟨S5000, .f32⟩
  | 7 => ⟨S_, .f32⟩
  | 8 => ⟨S_, .f32⟩
  | 9 => ⟨S5000, .f32⟩
  | 10 => ⟨S5000, .f32⟩
  | 11 => ⟨S5000x1, .f32⟩
  | 12 => ⟨S5000x4, .f32⟩
  | 13 => ⟨S5000x4, .f32⟩
  | 14 => ⟨S5000, .f32⟩
  | 15 => ⟨S5000, .i32⟩
  | 16 => ⟨S5000, .f32⟩
  | 17 => ⟨S5000, .i32⟩
  | 18 => ⟨S_, .i32⟩
  | 19 => ⟨S5000, .i32⟩
  | 20 => ⟨S5000, .i1⟩
  | 21 => ⟨S_, .i32⟩
  | 22 => ⟨S5000, .i32⟩
  | 23 => ⟨S5000, .i32⟩
  | 24 => ⟨S5000, .i32⟩
  | 25 => ⟨S5000x1, .i32⟩
  | 26 => ⟨S5000x4, .f32⟩
  | 27 => ⟨S5000x1, .f32⟩
  | 28 => ⟨S5000, .f32⟩
  | 29 => ⟨S_, .f32⟩
  | 30 => ⟨S120, .f32⟩
  | 31 => ⟨S5120, .f32⟩
  | 32 => ⟨S40x128, .f32⟩
  | 33 => ⟨S5000x1, .f32⟩
  | 34 => ⟨S5000, .f32⟩
  | 35 => ⟨S_, .f32⟩
  | 36 => ⟨S120, .f32⟩
  | 37 => ⟨S5120, .f32⟩
  | 38 => ⟨S40x128, .f32⟩
  | 39 => ⟨S5000x1, .f32⟩
  | 40 => ⟨S5000, .f32⟩
  | 41 => ⟨S_, .f32⟩
  | 42 => ⟨S120, .f32⟩
  | 43 => ⟨S5120, .f32⟩
  | 44 => ⟨S40x128, .f32⟩
  | 45 => ⟨S5000x1, .f32⟩
  | 46 => ⟨S5000, .f32⟩
  | 47 => ⟨S_, .f32⟩
  | 48 => ⟨S120, .f32⟩
  | 49 => ⟨S5120, .f32⟩
  | 50 => ⟨S40x128, .f32⟩
  | 51 => ⟨S5000x1, .f32⟩
  | 52 => ⟨S5000, .f32⟩
  | 53 => ⟨S5000x1, .f32⟩
  | 54 => ⟨S5000, .f32⟩
  | 55 => ⟨S5000, .f32⟩
  | 56 => ⟨S5000x1, .f32⟩
  | 57 => ⟨S5000, .f32⟩
  | 58 => ⟨S5000x1, .f32⟩
  | 59 => ⟨S5000, .f32⟩
  | 60 => ⟨S5000, .f32⟩
  | 61 => ⟨S5000, .f32⟩
  | 62 => ⟨S_, .f32⟩
  | 63 => ⟨S120, .f32⟩
  | 64 => ⟨S5120, .f32⟩
  | 65 => ⟨S40x128, .f32⟩
  | 66 => ⟨S_, .i32⟩
  | 67 => ⟨S5000, .i32⟩
  | 68 => ⟨S5000, .i1⟩
  | 69 => ⟨S_, .i32⟩
  | 70 => ⟨S5000, .i32⟩
  | 71 => ⟨S5000, .i32⟩
  | 72 => ⟨S5000, .i32⟩
  | 73 => ⟨S5000x1, .i32⟩
  | 74 => ⟨S5000, .f32⟩
  | 75 => ⟨S_, .f32⟩
  | 76 => ⟨S120, .f32⟩
  | 77 => ⟨S5120, .f32⟩
  | 78 => ⟨S40x128, .f32⟩
  | 79 => ⟨S_, .i32⟩
  | 80 => ⟨S5000, .i32⟩
  | 81 => ⟨S5000, .i1⟩
  | 82 => ⟨S_, .i32⟩
  | 83 => ⟨S5000, .i32⟩
  | 84 => ⟨S5000, .i32⟩
  | 85 => ⟨S5000, .i32⟩
  | 86 => ⟨S5000x1, .i32⟩
  | 87 => ⟨S5000, .i32⟩
  | 88 => ⟨S_, .i32⟩
  | 89 => ⟨S5000, .i32⟩
  | 90 => ⟨S5000, .i1⟩
  | 91 => ⟨S5000, .i32⟩
  | 92 => ⟨S_, .i32⟩
  | 93 => ⟨S120, .i32⟩
  | 94 => ⟨S5120, .i32⟩
  | 95 => ⟨S40x128, .i32⟩
  | 96 => ⟨S_, .i32⟩
  | 97 => ⟨S120, .i32⟩
  | 98 => ⟨S5120, .i32⟩
  | 99 => ⟨S40x128, .i32⟩
  | 100 => ⟨S5000x1, .f32⟩
  | 101 => ⟨S5000, .f32⟩
  | 102 => ⟨S_, .f32⟩
  | 103 => ⟨S120, .f32⟩
  | 104 => ⟨S5120, .f32⟩
  | 105 => ⟨S40x128, .f32⟩
  | 106 => ⟨S5000x1, .f32⟩
  | 107 => ⟨S5000, .f32⟩
  | 108 => ⟨S_, .f32⟩
  | 109 => ⟨S120, .f32⟩
  | 110 => ⟨S5120, .f32⟩
  | 111 => ⟨S40x128, .f32⟩
  | 112 => ⟨S5000x1, .f32⟩
  | 113 => ⟨S5000, .f32⟩
  | 114 => ⟨S_, .f32⟩
  | 115 => ⟨S120, .f32⟩
  | 116 => ⟨S5120, .f32⟩
  | 117 => ⟨S40x128, .f32⟩
  | 118 => ⟨S5000x1, .f32⟩
  | 119 => ⟨S5000, .f32⟩
  | 120 => ⟨S_, .f32⟩
  | 121 => ⟨S120, .f32⟩
  | 122 => ⟨S5120, .f32⟩
  | 123 => ⟨S40x128, .f32⟩
  | 124 => ⟨S_, .f32⟩
  | 125 => ⟨S120, .f32⟩
  | 126 => ⟨S5120, .f32⟩
  | 127 => ⟨S40x128, .f32⟩
  | _ => ⟨S5000x4, .f32⟩

abbrev hbmTy0_1 (i : Nat) : BufTy := match i % 128 with
  | 0 => ⟨S30x128, .f32⟩
  | 1 => ⟨S30x1, .f32⟩
  | 2 => ⟨S30, .f32⟩
  | 3 => ⟨S30, .i32⟩
  | 4 => ⟨S30x1, .f32⟩
  | 5 => ⟨S30, .f32⟩
  | 6 => ⟨S30x4, .f32⟩
  | 7 => ⟨S_, .i32⟩
  | 8 => ⟨S30, .i32⟩
  | 9 => ⟨S30, .i1⟩
  | 10 => ⟨S_, .i32⟩
  | 11 => ⟨S30, .i32⟩
  | 12 => ⟨S30, .i32⟩
  | 13 => ⟨S30, .i32⟩
  | 14 => ⟨S30x1, .i32⟩
  | 15 => ⟨S30x256, .f32⟩
  | 16 => ⟨S30x1, .f32⟩
  | 17 => ⟨S30x256, .f32⟩
  | 18 => ⟨S30x256, .f32⟩
  | 19 => ⟨S30x260, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | .local _ .vmem, ⟨0, _⟩ => ⟨S40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .i32⟩
  | .local _ .vmem, ⟨7, _⟩ => ⟨S40x128, .i32⟩
  | .local _ .vmem, ⟨8, _⟩ => ⟨S40x128, .f32⟩
  | .local _ .vmem, ⟨9, _⟩ => ⟨S40x128, .f32⟩
  | .local _ .vmem, ⟨10, _⟩ => ⟨S40x128, .f32⟩
  | .local _ .vmem, ⟨11, _⟩ => ⟨S40x128, .f32⟩
  | .local _ .vmem, ⟨12, _⟩ => ⟨S40x128, .f32⟩
  | .local _ .vmem, ⟨13, _⟩ => ⟨S30x128, .f32⟩
  | .local _ .vmem, ⟨14, _⟩ => ⟨S40x128, .f32⟩
  | .local _ .vmem, ⟨15, _⟩ => ⟨S8x128, .i32⟩
  | .local _ .vmem, ⟨16, _⟩ => ⟨S8x128, .i32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1_0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_7 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_10 : Ref sig .tc := ⟨.hbm, 79, rfl⟩
abbrev main_v61 : Ref sig .tc := ⟨.hbm, 80, rfl⟩
abbrev main_v62 : Ref sig .tc := ⟨.hbm, 81, rfl⟩
abbrev main_c_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_13 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_15 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_17 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_18 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_19 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c_20 : Ref sig .tc := ⟨.hbm, 135, rfl⟩
abbrev main_v107 : Ref sig .tc := ⟨.hbm, 136, rfl⟩
abbrev main_v108 : Ref sig .tc := ⟨.hbm, 137, rfl⟩
abbrev main_c_21 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

def k0_off1 (arg17 : BitVec 32) : Fin 2 → Nat :=
  let c7_i32_1145 : BitVec 32 := 7#32
  let v3228 : BitVec 32 := Scalar.shrui arg17 c7_i32_1145
  let v3230 : Index := Scalar.indexCast v3228
  let c0_1147 : Index := 0#32
  ![v3230.toNat, 0]

@[reducible] def k0_t1_loop (arg17 : BitVec 32) : Scf.Loop 32 :=
  let c0_i32_1167 : BitVec 32 := 0#32
  let c7_i32_1145 : BitVec 32 := 7#32
  let v3228 : BitVec 32 := Scalar.shrui arg17 c7_i32_1145
  let c1_i32_1166 : BitVec 32 := 1#32
  let v3297 : BitVec 32 := Scalar.addi v3228 c1_i32_1166
  let v3298 : BitVec 32 := Scalar.subi v3297 c0_i32_1167
  let c1_i32_1169 : BitVec 32 := 1#32
  let v3300 : BitVec 32 := Scalar.divsi v3298 c1_i32_1169
  let v3301 : BitVec 32 := Scalar.muli v3300 c1_i32_1169
  let v3302 : BitVec 32 := Scalar.addi c0_i32_1167 v3301
  let c1_i32_1170 : BitVec 32 := 1#32
  ⟨c0_i32_1167, v3302, c1_i32_1170⟩
def k0_off2 (arg17 : BitVec 32) (k0_t1 : Fin (k0_t1_loop arg17).trips) : Fin 2 → Nat :=
  let c0_i32_1167 : BitVec 32 := 0#32
  let c1_i32_1170 : BitVec 32 := 1#32
  let arg21 : BitVec 32 := Scf.iv c0_i32_1167 c1_i32_1170 k0_t1
  let v3356 : Index := Scalar.indexCast arg21
  let c0_1193 : Index := 0#32
  ![v3356.toNat, 0]
@[reducible] def k0_t2_loop (arg17 : BitVec 32) : Scf.Loop 32 :=
  let c0_i32_1167 : BitVec 32 := 0#32
  let c7_i32_1145 : BitVec 32 := 7#32
  let v3228 : BitVec 32 := Scalar.shrui arg17 c7_i32_1145
  let c1_i32_1166 : BitVec 32 := 1#32
  let v3297 : BitVec 32 := Scalar.addi v3228 c1_i32_1166
  let v3298 : BitVec 32 := Scalar.subi v3297 c0_i32_1167
  let c1_i32_1169 : BitVec 32 := 1#32
  let v3300 : BitVec 32 := Scalar.divsi v3298 c1_i32_1169
  let v3301 : BitVec 32 := Scalar.muli v3300 c1_i32_1169
  let v3302 : BitVec 32 := Scalar.addi c0_i32_1167 v3301
  let v3299 : BitVec 32 := Scalar.addi c0_i32_1167 v3298
  let c1_i32_1171 : BitVec 32 := 1#32
  ⟨v3302, v3299, c1_i32_1171⟩
def k0_off3 (arg17 : BitVec 32) (k0_t2 : Fin (k0_t2_loop arg17).trips) : Fin 2 → Nat :=
  let c0_i32_1167 : BitVec 32 := 0#32
  let c7_i32_1145 : BitVec 32 := 7#32
  let v3228 : BitVec 32 := Scalar.shrui arg17 c7_i32_1145
  let c1_i32_1166 : BitVec 32 := 1#32
  let v3297 : BitVec 32 := Scalar.addi v3228 c1_i32_1166
  let v3298 : BitVec 32 := Scalar.subi v3297 c0_i32_1167
  let c1_i32_1169 : BitVec 32 := 1#32
  let v3300 : BitVec 32 := Scalar.divsi v3298 c1_i32_1169
  let v3301 : BitVec 32 := Scalar.muli v3300 c1_i32_1169
  let v3302 : BitVec 32 := Scalar.addi c0_i32_1167 v3301
  let c1_i32_1171 : BitVec 32 := 1#32
  let arg21 : BitVec 32 := Scf.iv v3302 c1_i32_1171 k0_t2
  let v3356 : Index := Scalar.indexCast arg21
  let c0_1193 : Index := 0#32
  ![v3356.toNat, 0]
def k0_off4 (arg17 : BitVec 32) : Fin 2 → Nat :=
  let c7_i32_1145 : BitVec 32 := 7#32
  let v3228 : BitVec 32 := Scalar.shrui arg17 c7_i32_1145
  let v3356 : Index := Scalar.indexCast v3228
  let c0_1193 : Index := 0#32
  ![v3356.toNat, 0]
def k0_cond1 (v3241 : BitVec 1) (v3305 : BitVec 1) : BitVec 1 :=
  let v3306 : BitVec 1 := Scalar.andi v3241 v3305
  let v3307 : BitVec 32 := Scalar.extui v3306
  let c0_i32_1173 : BitVec 32 := 0#32
  let v3308 : BitVec 1 := Scalar.cmpi .ne v3307 c0_i32_1173
  v3308

def k0_chk2 (arg17 : BitVec 32) (v3241 : BitVec 1) (v3305 : BitVec 1) : Prop :=
  (∀ (k0_h1 : k0_cond1 v3241 v3305 = 1#1), ∀ a, (k0_off4 arg17) a + S1x128.size a ≤ S40x128.size a)
theorem k0_off4_inb : ∀ (arg17 : BitVec 32) (v3241 : BitVec 1) (v3305 : BitVec 1) (k0_hw2 : k0_chk2 arg17 v3241 v3305), ∀ (k0_h1 : k0_cond1 v3241 v3305 = 1#1), ∀ a, (k0_off4 arg17) a + S1x128.size a ≤ S40x128.size a := fun arg17 v3241 v3305 k0_hw2 k0_h1 => k0_hw2 k0_h1

def k0_off5 (arg17 : BitVec 32) : Fin 2 → Nat :=
  let c7_i32_1145 : BitVec 32 := 7#32
  let v3228 : BitVec 32 := Scalar.shrui arg17 c7_i32_1145
  let v3309 : Index := Scalar.indexCast v3228
  let c0_1174 : Index := 0#32
  ![v3309.toNat, 0]

def k0_chk1 (arg17 : BitVec 32) : Prop :=
  (∀ a, (k0_off1 arg17) a + S1x128.size a ≤ S40x128.size a) ∧
  ((k0_t1_loop arg17).OK) ∧
  (∀ k0_t1 : Fin (k0_t1_loop arg17).trips, ∀ a, (k0_off2 arg17 k0_t1) a + S1x128.size a ≤ S40x128.size a) ∧
  ((k0_t2_loop arg17).OK) ∧
  (∀ k0_t2 : Fin (k0_t2_loop arg17).trips, ∀ a, (k0_off3 arg17 k0_t2) a + S1x128.size a ≤ S40x128.size a) ∧
  (∀ a, (k0_off5 arg17) a + S1x128.size a ≤ S40x128.size a)
theorem k0_off1_inb : ∀ (arg17 : BitVec 32) (k0_hw1 : k0_chk1 arg17), ∀ a, (k0_off1 arg17) a + S1x128.size a ≤ S40x128.size a := fun arg17 k0_hw1 => k0_hw1.1
theorem k0_t1_ok : ∀ (arg17 : BitVec 32) (k0_hw1 : k0_chk1 arg17), (k0_t1_loop arg17).OK := fun arg17 k0_hw1 => k0_hw1.2.1
theorem k0_off2_inb : ∀ (arg17 : BitVec 32) (k0_hw1 : k0_chk1 arg17) (k0_t1 : Fin (k0_t1_loop arg17).trips), ∀ a, (k0_off2 arg17 k0_t1) a + S1x128.size a ≤ S40x128.size a := fun arg17 k0_hw1 k0_t1 => k0_hw1.2.2.1 k0_t1
theorem k0_t2_ok : ∀ (arg17 : BitVec 32) (k0_hw1 : k0_chk1 arg17), (k0_t2_loop arg17).OK := fun arg17 k0_hw1 => k0_hw1.2.2.2.1
theorem k0_off3_inb : ∀ (arg17 : BitVec 32) (k0_hw1 : k0_chk1 arg17) (k0_t2 : Fin (k0_t2_loop arg17).trips), ∀ a, (k0_off3 arg17 k0_t2) a + S1x128.size a ≤ S40x128.size a := fun arg17 k0_hw1 k0_t2 => k0_hw1.2.2.2.2.1 k0_t2
theorem k0_off5_inb : ∀ (arg17 : BitVec 32) (k0_hw1 : k0_chk1 arg17), ∀ a, (k0_off5 arg17) a + S1x128.size a ≤ S40x128.size a := fun arg17 k0_hw1 => k0_hw1.2.2.2.2.2

@[reducible] def k0_t3_loop : Scf.Loop 32 :=
  let c0_i32_10 : BitVec 32 := 0#32
  let c30_i32 : BitVec 32 := 30#32
  let v14 : BitVec 32 := Scalar.addi c0_i32_10 c30_i32
  let c1_i32_11 : BitVec 32 := 1#32
  ⟨c0_i32_10, v14, c1_i32_11⟩
@[reducible] def k0_t4_loop : Scf.Loop 32 :=
  let c0_i32_14 : BitVec 32 := 0#32
  let c30_i32_15 : BitVec 32 := 30#32
  let v16 : BitVec 32 := Scalar.addi c0_i32_14 c30_i32_15
  let c1_i32_16 : BitVec 32 := 1#32
  ⟨c0_i32_14, v16, c1_i32_16⟩
def k0_off6 (v26 : BitVec 32) : Fin 2 → Nat :=
  let c7_i32 : BitVec 32 := 7#32
  let v27 : BitVec 32 := Scalar.shrui v26 c7_i32
  let v29 : Index := Scalar.indexCast v27
  let c0_23 : Index := 0#32
  ![v29.toNat, 0]

def k0_chk3 (v26 : BitVec 32) : Prop :=
  (∀ a, (k0_off6 v26) a + S1x128.size a ≤ S40x128.size a)
theorem k0_off6_inb : ∀ (v26 : BitVec 32) (k0_hw3 : k0_chk3 v26), ∀ a, (k0_off6 v26) a + S1x128.size a ≤ S40x128.size a := fun v26 k0_hw3 => k0_hw3

def k0_off7 (v133 : BitVec 32) : Fin 2 → Nat :=
  let c7_i32_56 : BitVec 32 := 7#32
  let v134 : BitVec 32 := Scalar.shrui v133 c7_i32_56
  let v136 : Index := Scalar.indexCast v134
  let c0_58 : Index := 0#32
  ![v136.toNat, 0]

def k0_chk4 (v133 : BitVec 32) : Prop :=
  (∀ a, (k0_off7 v133) a + S1x128.size a ≤ S40x128.size a)
theorem k0_off7_inb : ∀ (v133 : BitVec 32) (k0_hw4 : k0_chk4 v133), ∀ a, (k0_off7 v133) a + S1x128.size a ≤ S40x128.size a := fun v133 k0_hw4 => k0_hw4

def k0_off8 (v240 : BitVec 32) : Fin 2 → Nat :=
  let c7_i32_94 : BitVec 32 := 7#32
  let v241 : BitVec 32 := Scalar.shrui v240 c7_i32_94
  let v243 : Index := Scalar.indexCast v241
  let c0_96 : Index := 0#32
  ![v243.toNat, 0]

def k0_chk5 (v240 : BitVec 32) : Prop :=
  (∀ a, (k0_off8 v240) a + S1x128.size a ≤ S40x128.size a)
theorem k0_off8_inb : ∀ (v240 : BitVec 32) (k0_hw5 : k0_chk5 v240), ∀ a, (k0_off8 v240) a + S1x128.size a ≤ S40x128.size a := fun v240 k0_hw5 => k0_hw5

def k0_off9 (v347 : BitVec 32) : Fin 2 → Nat :=
  let c7_i32_132 : BitVec 32 := 7#32
  let v348 : BitVec 32 := Scalar.shrui v347 c7_i32_132
  let v350 : Index := Scalar.indexCast v348
  let c0_134 : Index := 0#32
  ![v350.toNat, 0]

def k0_chk6 (v347 : BitVec 32) : Prop :=
  (∀ a, (k0_off9 v347) a + S1x128.size a ≤ S40x128.size a)
theorem k0_off9_inb : ∀ (v347 : BitVec 32) (k0_hw6 : k0_chk6 v347), ∀ a, (k0_off9 v347) a + S1x128.size a ≤ S40x128.size a := fun v347 k0_hw6 => k0_hw6

def k0_off10 (v454 : BitVec 32) : Fin 2 → Nat :=
  let c7_i32_170 : BitVec 32 := 7#32
  let v455 : BitVec 32 := Scalar.shrui v454 c7_i32_170
  let v457 : Index := Scalar.indexCast v455
  let c0_172 : Index := 0#32
  ![v457.toNat, 0]

def k0_chk7 (v454 : BitVec 32) : Prop :=
  (∀ a, (k0_off10 v454) a + S1x128.size a ≤ S40x128.size a)
theorem k0_off10_inb : ∀ (v454 : BitVec 32) (k0_hw7 : k0_chk7 v454), ∀ a, (k0_off10 v454) a + S1x128.size a ≤ S40x128.size a := fun v454 k0_hw7 => k0_hw7

def k0_off11 (v561 : BitVec 32) : Fin 2 → Nat :=
  let c7_i32_208 : BitVec 32 := 7#32
  let v562 : BitVec 32 := Scalar.shrui v561 c7_i32_208
  let v564 : Index := Scalar.indexCast v562
  let c0_210 : Index := 0#32
  ![v564.toNat, 0]

def k0_chk8 (v561 : BitVec 32) : Prop :=
  (∀ a, (k0_off11 v561) a + S1x128.size a ≤ S40x128.size a)
theorem k0_off11_inb : ∀ (v561 : BitVec 32) (k0_hw8 : k0_chk8 v561), ∀ a, (k0_off11 v561) a + S1x128.size a ≤ S40x128.size a := fun v561 k0_hw8 => k0_hw8

def k0_off12 (v668 : BitVec 32) : Fin 2 → Nat :=
  let c7_i32_245 : BitVec 32 := 7#32
  let v669 : BitVec 32 := Scalar.shrui v668 c7_i32_245
  let v671 : Index := Scalar.indexCast v669
  let c0_247 : Index := 0#32
  ![v671.toNat, 0]

def k0_chk9 (v668 : BitVec 32) : Prop :=
  (∀ a, (k0_off12 v668) a + S1x128.size a ≤ S40x128.size a)
theorem k0_off12_inb : ∀ (v668 : BitVec 32) (k0_hw9 : k0_chk9 v668), ∀ a, (k0_off12 v668) a + S1x128.size a ≤ S40x128.size a := fun v668 k0_hw9 => k0_hw9

def k0_off13 (v775 : BitVec 32) : Fin 2 → Nat :=
  let c7_i32_283 : BitVec 32 := 7#32
  let v776 : BitVec 32 := Scalar.shrui v775 c7_i32_283
  let v778 : Index := Scalar.indexCast v776
  let c0_285 : Index := 0#32
  ![v778.toNat, 0]

def k0_chk10 (v775 : BitVec 32) : Prop :=
  (∀ a, (k0_off13 v775) a + S1x128.size a ≤ S40x128.size a)
theorem k0_off13_inb : ∀ (v775 : BitVec 32) (k0_hw10 : k0_chk10 v775), ∀ a, (k0_off13 v775) a + S1x128.size a ≤ S40x128.size a := fun v775 k0_hw10 => k0_hw10

def k0_off14 (v882 : BitVec 32) : Fin 2 → Nat :=
  let c7_i32_320 : BitVec 32 := 7#32
  let v883 : BitVec 32 := Scalar.shrui v882 c7_i32_320
  let v885 : Index := Scalar.indexCast v883
  let c0_322 : Index := 0#32
  ![v885.toNat, 0]

def k0_chk11 (v882 : BitVec 32) : Prop :=
  (∀ a, (k0_off14 v882) a + S1x128.size a ≤ S40x128.size a)
theorem k0_off14_inb : ∀ (v882 : BitVec 32) (k0_hw11 : k0_chk11 v882), ∀ a, (k0_off14 v882) a + S1x128.size a ≤ S40x128.size a := fun v882 k0_hw11 => k0_hw11

def k0_off15 (v989 : BitVec 32) : Fin 2 → Nat :=
  let c7_i32_357 : BitVec 32 := 7#32
  let v990 : BitVec 32 := Scalar.shrui v989 c7_i32_357
  let v992 : Index := Scalar.indexCast v990
  let c0_359 : Index := 0#32
  ![v992.toNat, 0]

def k0_chk12 (v989 : BitVec 32) : Prop :=
  (∀ a, (k0_off15 v989) a + S1x128.size a ≤ S40x128.size a)
theorem k0_off15_inb : ∀ (v989 : BitVec 32) (k0_hw12 : k0_chk12 v989), ∀ a, (k0_off15 v989) a + S1x128.size a ≤ S40x128.size a := fun v989 k0_hw12 => k0_hw12

def k0_off16 (v1096 : BitVec 32) : Fin 2 → Nat :=
  let c7_i32_394 : BitVec 32 := 7#32
  let v1097 : BitVec 32 := Scalar.shrui v1096 c7_i32_394
  let v1099 : Index := Scalar.indexCast v1097
  let c0_396 : Index := 0#32
  ![v1099.toNat, 0]

def k0_chk13 (v1096 : BitVec 32) : Prop :=
  (∀ a, (k0_off16 v1096) a + S1x128.size a ≤ S40x128.size a)
theorem k0_off16_inb : ∀ (v1096 : BitVec 32) (k0_hw13 : k0_chk13 v1096), ∀ a, (k0_off16 v1096) a + S1x128.size a ≤ S40x128.size a := fun v1096 k0_hw13 => k0_hw13

def k0_off17 (v1203 : BitVec 32) : Fin 2 → Nat :=
  let c7_i32_431 : BitVec 32 := 7#32
  let v1204 : BitVec 32 := Scalar.shrui v1203 c7_i32_431
  let v1206 : Index := Scalar.indexCast v1204
  let c0_433 : Index := 0#32
  ![v1206.toNat, 0]

def k0_chk14 (v1203 : BitVec 32) : Prop :=
  (∀ a, (k0_off17 v1203) a + S1x128.size a ≤ S40x128.size a)
theorem k0_off17_inb : ∀ (v1203 : BitVec 32) (k0_hw14 : k0_chk14 v1203), ∀ a, (k0_off17 v1203) a + S1x128.size a ≤ S40x128.size a := fun v1203 k0_hw14 => k0_hw14

def k0_off18 (v1310 : BitVec 32) : Fin 2 → Nat :=
  let c7_i32_468 : BitVec 32 := 7#32
  let v1311 : BitVec 32 := Scalar.shrui v1310 c7_i32_468
  let v1313 : Index := Scalar.indexCast v1311
  let c0_470 : Index := 0#32
  ![v1313.toNat, 0]

def k0_chk15 (v1310 : BitVec 32) : Prop :=
  (∀ a, (k0_off18 v1310) a + S1x128.size a ≤ S40x128.size a)
theorem k0_off18_inb : ∀ (v1310 : BitVec 32) (k0_hw15 : k0_chk15 v1310), ∀ a, (k0_off18 v1310) a + S1x128.size a ≤ S40x128.size a := fun v1310 k0_hw15 => k0_hw15

def k0_off19 (v1417 : BitVec 32) : Fin 2 → Nat :=
  let c7_i32_505 : BitVec 32 := 7#32
  let v1418 : BitVec 32 := Scalar.shrui v1417 c7_i32_505
  let v1420 : Index := Scalar.indexCast v1418
  let c0_507 : Index := 0#32
  ![v1420.toNat, 0]

def k0_chk16 (v1417 : BitVec 32) : Prop :=
  (∀ a, (k0_off19 v1417) a + S1x128.size a ≤ S40x128.size a)
theorem k0_off19_inb : ∀ (v1417 : BitVec 32) (k0_hw16 : k0_chk16 v1417), ∀ a, (k0_off19 v1417) a + S1x128.size a ≤ S40x128.size a := fun v1417 k0_hw16 => k0_hw16

def k0_off20 (v1524 : BitVec 32) : Fin 2 → Nat :=
  let c7_i32_542 : BitVec 32 := 7#32
  let v1525 : BitVec 32 := Scalar.shrui v1524 c7_i32_542
  let v1527 : Index := Scalar.indexCast v1525
  let c0_544 : Index := 0#32
  ![v1527.toNat, 0]

def k0_chk17 (v1524 : BitVec 32) : Prop :=
  (∀ a, (k0_off20 v1524) a + S1x128.size a ≤ S40x128.size a)
theorem k0_off20_inb : ∀ (v1524 : BitVec 32) (k0_hw17 : k0_chk17 v1524), ∀ a, (k0_off20 v1524) a + S1x128.size a ≤ S40x128.size a := fun v1524 k0_hw17 => k0_hw17

def k0_off21 (v1631 : BitVec 32) : Fin 2 → Nat :=
  let c7_i32_580 : BitVec 32 := 7#32
  let v1632 : BitVec 32 := Scalar.shrui v1631 c7_i32_580
  let v1634 : Index := Scalar.indexCast v1632
  let c0_582 : Index := 0#32
  ![v1634.toNat, 0]

def k0_chk18 (v1631 : BitVec 32) : Prop :=
  (∀ a, (k0_off21 v1631) a + S1x128.size a ≤ S40x128.size a)
theorem k0_off21_inb : ∀ (v1631 : BitVec 32) (k0_hw18 : k0_chk18 v1631), ∀ a, (k0_off21 v1631) a + S1x128.size a ≤ S40x128.size a := fun v1631 k0_hw18 => k0_hw18

def k0_off22 (v1738 : BitVec 32) : Fin 2 → Nat :=
  let c7_i32_618 : BitVec 32 := 7#32
  let v1739 : BitVec 32 := Scalar.shrui v1738 c7_i32_618
  let v1741 : Index := Scalar.indexCast v1739
  let c0_620 : Index := 0#32
  ![v1741.toNat, 0]

def k0_chk19 (v1738 : BitVec 32) : Prop :=
  (∀ a, (k0_off22 v1738) a + S1x128.size a ≤ S40x128.size a)
theorem k0_off22_inb : ∀ (v1738 : BitVec 32) (k0_hw19 : k0_chk19 v1738), ∀ a, (k0_off22 v1738) a + S1x128.size a ≤ S40x128.size a := fun v1738 k0_hw19 => k0_hw19

def k0_off23 (v1845 : BitVec 32) : Fin 2 → Nat :=
  let c7_i32_656 : BitVec 32 := 7#32
  let v1846 : BitVec 32 := Scalar.shrui v1845 c7_i32_656
  let v1848 : Index := Scalar.indexCast v1846
  let c0_658 : Index := 0#32
  ![v1848.toNat, 0]

def k0_chk20 (v1845 : BitVec 32) : Prop :=
  (∀ a, (k0_off23 v1845) a + S1x128.size a ≤ S40x128.size a)
theorem k0_off23_inb : ∀ (v1845 : BitVec 32) (k0_hw20 : k0_chk20 v1845), ∀ a, (k0_off23 v1845) a + S1x128.size a ≤ S40x128.size a := fun v1845 k0_hw20 => k0_hw20

def k0_off24 (v1952 : BitVec 32) : Fin 2 → Nat :=
  let c7_i32_694 : BitVec 32 := 7#32
  let v1953 : BitVec 32 := Scalar.shrui v1952 c7_i32_694
  let v1955 : Index := Scalar.indexCast v1953
  let c0_696 : Index := 0#32
  ![v1955.toNat, 0]

def k0_chk21 (v1952 : BitVec 32) : Prop :=
  (∀ a, (k0_off24 v1952) a + S1x128.size a ≤ S40x128.size a)
theorem k0_off24_inb : ∀ (v1952 : BitVec 32) (k0_hw21 : k0_chk21 v1952), ∀ a, (k0_off24 v1952) a + S1x128.size a ≤ S40x128.size a := fun v1952 k0_hw21 => k0_hw21

def k0_off25 (v2059 : BitVec 32) : Fin 2 → Nat :=
  let c7_i32_732 : BitVec 32 := 7#32
  let v2060 : BitVec 32 := Scalar.shrui v2059 c7_i32_732
  let v2062 : Index := Scalar.indexCast v2060
  let c0_734 : Index := 0#32
  ![v2062.toNat, 0]

def k0_chk22 (v2059 : BitVec 32) : Prop :=
  (∀ a, (k0_off25 v2059) a + S1x128.size a ≤ S40x128.size a)
theorem k0_off25_inb : ∀ (v2059 : BitVec 32) (k0_hw22 : k0_chk22 v2059), ∀ a, (k0_off25 v2059) a + S1x128.size a ≤ S40x128.size a := fun v2059 k0_hw22 => k0_hw22

def k0_off26 (v2166 : BitVec 32) : Fin 2 → Nat :=
  let c7_i32_770 : BitVec 32 := 7#32
  let v2167 : BitVec 32 := Scalar.shrui v2166 c7_i32_770
  let v2169 : Index := Scalar.indexCast v2167
  let c0_772 : Index := 0#32
  ![v2169.toNat, 0]

def k0_chk23 (v2166 : BitVec 32) : Prop :=
  (∀ a, (k0_off26 v2166) a + S1x128.size a ≤ S40x128.size a)
theorem k0_off26_inb : ∀ (v2166 : BitVec 32) (k0_hw23 : k0_chk23 v2166), ∀ a, (k0_off26 v2166) a + S1x128.size a ≤ S40x128.size a := fun v2166 k0_hw23 => k0_hw23

def k0_off27 (v2273 : BitVec 32) : Fin 2 → Nat :=
  let c7_i32_808 : BitVec 32 := 7#32
  let v2274 : BitVec 32 := Scalar.shrui v2273 c7_i32_808
  let v2276 : Index := Scalar.indexCast v2274
  let c0_810 : Index := 0#32
  ![v2276.toNat, 0]

def k0_chk24 (v2273 : BitVec 32) : Prop :=
  (∀ a, (k0_off27 v2273) a + S1x128.size a ≤ S40x128.size a)
theorem k0_off27_inb : ∀ (v2273 : BitVec 32) (k0_hw24 : k0_chk24 v2273), ∀ a, (k0_off27 v2273) a + S1x128.size a ≤ S40x128.size a := fun v2273 k0_hw24 => k0_hw24

def k0_off28 (v2380 : BitVec 32) : Fin 2 → Nat :=
  let c7_i32_846 : BitVec 32 := 7#32
  let v2381 : BitVec 32 := Scalar.shrui v2380 c7_i32_846
  let v2383 : Index := Scalar.indexCast v2381
  let c0_848 : Index := 0#32
  ![v2383.toNat, 0]

def k0_chk25 (v2380 : BitVec 32) : Prop :=
  (∀ a, (k0_off28 v2380) a + S1x128.size a ≤ S40x128.size a)
theorem k0_off28_inb : ∀ (v2380 : BitVec 32) (k0_hw25 : k0_chk25 v2380), ∀ a, (k0_off28 v2380) a + S1x128.size a ≤ S40x128.size a := fun v2380 k0_hw25 => k0_hw25

def k0_off29 (v2487 : BitVec 32) : Fin 2 → Nat :=
  let c7_i32_884 : BitVec 32 := 7#32
  let v2488 : BitVec 32 := Scalar.shrui v2487 c7_i32_884
  let v2490 : Index := Scalar.indexCast v2488
  let c0_886 : Index := 0#32
  ![v2490.toNat, 0]

def k0_chk26 (v2487 : BitVec 32) : Prop :=
  (∀ a, (k0_off29 v2487) a + S1x128.size a ≤ S40x128.size a)
theorem k0_off29_inb : ∀ (v2487 : BitVec 32) (k0_hw26 : k0_chk26 v2487), ∀ a, (k0_off29 v2487) a + S1x128.size a ≤ S40x128.size a := fun v2487 k0_hw26 => k0_hw26

def k0_off30 (v2594 : BitVec 32) : Fin 2 → Nat :=
  let c7_i32_922 : BitVec 32 := 7#32
  let v2595 : BitVec 32 := Scalar.shrui v2594 c7_i32_922
  let v2597 : Index := Scalar.indexCast v2595
  let c0_924 : Index := 0#32
  ![v2597.toNat, 0]

def k0_chk27 (v2594 : BitVec 32) : Prop :=
  (∀ a, (k0_off30 v2594) a + S1x128.size a ≤ S40x128.size a)
theorem k0_off30_inb : ∀ (v2594 : BitVec 32) (k0_hw27 : k0_chk27 v2594), ∀ a, (k0_off30 v2594) a + S1x128.size a ≤ S40x128.size a := fun v2594 k0_hw27 => k0_hw27

def k0_off31 (v2701 : BitVec 32) : Fin 2 → Nat :=
  let c7_i32_960 : BitVec 32 := 7#32
  let v2702 : BitVec 32 := Scalar.shrui v2701 c7_i32_960
  let v2704 : Index := Scalar.indexCast v2702
  let c0_962 : Index := 0#32
  ![v2704.toNat, 0]

def k0_chk28 (v2701 : BitVec 32) : Prop :=
  (∀ a, (k0_off31 v2701) a + S1x128.size a ≤ S40x128.size a)
theorem k0_off31_inb : ∀ (v2701 : BitVec 32) (k0_hw28 : k0_chk28 v2701), ∀ a, (k0_off31 v2701) a + S1x128.size a ≤ S40x128.size a := fun v2701 k0_hw28 => k0_hw28

def k0_off32 (v2808 : BitVec 32) : Fin 2 → Nat :=
  let c7_i32_998 : BitVec 32 := 7#32
  let v2809 : BitVec 32 := Scalar.shrui v2808 c7_i32_998
  let v2811 : Index := Scalar.indexCast v2809
  let c0_1000 : Index := 0#32
  ![v2811.toNat, 0]

def k0_chk29 (v2808 : BitVec 32) : Prop :=
  (∀ a, (k0_off32 v2808) a + S1x128.size a ≤ S40x128.size a)
theorem k0_off32_inb : ∀ (v2808 : BitVec 32) (k0_hw29 : k0_chk29 v2808), ∀ a, (k0_off32 v2808) a + S1x128.size a ≤ S40x128.size a := fun v2808 k0_hw29 => k0_hw29

def k0_off33 (v2915 : BitVec 32) : Fin 2 → Nat :=
  let c7_i32_1036 : BitVec 32 := 7#32
  let v2916 : BitVec 32 := Scalar.shrui v2915 c7_i32_1036
  let v2918 : Index := Scalar.indexCast v2916
  let c0_1038 : Index := 0#32
  ![v2918.toNat, 0]

def k0_chk30 (v2915 : BitVec 32) : Prop :=
  (∀ a, (k0_off33 v2915) a + S1x128.size a ≤ S40x128.size a)
theorem k0_off33_inb : ∀ (v2915 : BitVec 32) (k0_hw30 : k0_chk30 v2915), ∀ a, (k0_off33 v2915) a + S1x128.size a ≤ S40x128.size a := fun v2915 k0_hw30 => k0_hw30

def k0_off34 (v3022 : BitVec 32) : Fin 2 → Nat :=
  let c7_i32_1074 : BitVec 32 := 7#32
  let v3023 : BitVec 32 := Scalar.shrui v3022 c7_i32_1074
  let v3025 : Index := Scalar.indexCast v3023
  let c0_1076 : Index := 0#32
  ![v3025.toNat, 0]

def k0_chk31 (v3022 : BitVec 32) : Prop :=
  (∀ a, (k0_off34 v3022) a + S1x128.size a ≤ S40x128.size a)
theorem k0_off34_inb : ∀ (v3022 : BitVec 32) (k0_hw31 : k0_chk31 v3022), ∀ a, (k0_off34 v3022) a + S1x128.size a ≤ S40x128.size a := fun v3022 k0_hw31 => k0_hw31

def k0_off35 (v3129 : BitVec 32) : Fin 2 → Nat :=
  let c7_i32_1112 : BitVec 32 := 7#32
  let v3130 : BitVec 32 := Scalar.shrui v3129 c7_i32_1112
  let v3132 : Index := Scalar.indexCast v3130
  let c0_1114 : Index := 0#32
  ![v3132.toNat, 0]

def k0_chk32 (v3129 : BitVec 32) : Prop :=
  (∀ a, (k0_off35 v3129) a + S1x128.size a ≤ S40x128.size a)
theorem k0_off35_inb : ∀ (v3129 : BitVec 32) (k0_hw32 : k0_chk32 v3129), ∀ a, (k0_off35 v3129) a + S1x128.size a ≤ S40x128.size a := fun v3129 k0_hw32 => k0_hw32

abbrev stage0_0 : Fin 1 → Memref sig .tc .vmem S40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S40x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S40x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S40x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S30x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S5000x256 : Shape := ⟨2, ![5000, 256]⟩
abbrev S_ : Shape := ⟨0, ![]⟩
abbrev S5000x1 : Shape := ⟨2, ![5000, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩
abbrev S15 : Shape := ⟨1, ![15]⟩
abbrev S30 : Shape := ⟨1, ![30]⟩
abbrev S30x1 : Shape := ⟨2, ![30, 1]⟩
abbrev S30x256 : Shape := ⟨2, ![30, 256]⟩
abbrev S30x4 : Shape := ⟨2, ![30, 4]⟩
abbrev S30x260 : Shape := ⟨2, ![30, 260]⟩

abbrev nBuf : Space → Nat
  | .hbm => 207
  | .vmem => 0
  | .smem => 0
  | _ => 0

abbrev hbmTy0_0 (i : Nat) : BufTy := match i % 128 with
  | 0 => ⟨S5000x4, .f32⟩
  | 1 => ⟨S5000, .f32⟩
  | 2 => ⟨S5000x256, .f32⟩
  | 3 => ⟨S5000, .i32⟩
  | 4 => ⟨S_, .f32⟩
  | 5 => ⟨S_, .f32⟩
  | 6 => ⟨S5000, .f32⟩
  | 7 => ⟨S_, .f32⟩
  | 8 => ⟨S_, .f32⟩
  | 9 => ⟨S5000, .f32⟩
  | 10 => ⟨S5000, .f32⟩
  | 11 => ⟨S5000x1, .f32⟩
  | 12 => ⟨S5000x4, .f32⟩
  | 13 => ⟨S5000x4, .f32⟩
  | 14 => ⟨S5000, .f32⟩
  | 15 => ⟨S5000, .i32⟩
  | 16 => ⟨S5000, .f32⟩
  | 17 => ⟨S5000, .i32⟩
  | 18 => ⟨S_, .i32⟩
  | 19 => ⟨S5000, .i32⟩
  | 20 => ⟨S5000, .i1⟩
  | 21 => ⟨S_, .i32⟩
  | 22 => ⟨S5000, .i32⟩
  | 23 => ⟨S5000, .i32⟩
  | 24 => ⟨S5000, .i32⟩
  | 25 => ⟨S5000x1, .i32⟩
  | 26 => ⟨S5000x4, .f32⟩
  | 27 => ⟨S5000x1, .f32⟩
  | 28 => ⟨S5000, .f32⟩
  | 29 => ⟨S5000x1, .f32⟩
  | 30 => ⟨S5000, .f32⟩
  | 31 => ⟨S5000, .f32⟩
  | 32 => ⟨S5000x1, .f32⟩
  | 33 => ⟨S5000, .f32⟩
  | 34 => ⟨S5000x1, .f32⟩
  | 35 => ⟨S5000, .f32⟩
  | 36 => ⟨S5000, .f32⟩
  | 37 => ⟨S5000, .f32⟩
  | 38 => ⟨S5000x1, .f32⟩
  | 39 => ⟨S5000, .f32⟩
  | 40 => ⟨S5000x1, .f32⟩
  | 41 => ⟨S5000, .f32⟩
  | 42 => ⟨S5000, .f32⟩
  | 43 => ⟨S5000x1, .f32⟩
  | 44 => ⟨S5000, .f32⟩
  | 45 => ⟨S5000x1, .f32⟩
  | 46 => ⟨S5000, .f32⟩
  | 47 => ⟨S5000, .f32⟩
  | 48 => ⟨S5000, .f32⟩
  | 49 => ⟨S5000x2, .f32⟩
  | 50 => ⟨S5000x1x2, .f32⟩
  | 51 => ⟨S5000x2, .f32⟩
  | 52 => ⟨S1x5000x2, .f32⟩
  | 53 => ⟨S5000x5000x2, .f32⟩
  | 54 => ⟨S5000x5000x2, .f32⟩
  | 55 => ⟨S5000x5000x2, .f32⟩
  | 56 => ⟨S5000x2, .f32⟩
  | 57 => ⟨S5000x1x2, .f32⟩
  | 58 => ⟨S5000x2, .f32⟩
  | 59 => ⟨S1x5000x2, .f32⟩
  | 60 => ⟨S5000x5000x2, .f32⟩
  | 61 => ⟨S5000x5000x2, .f32⟩
  | 62 => ⟨S5000x5000x2, .f32⟩
  | 63 => ⟨S5000x5000x2, .f32⟩
  | 64 => ⟨S_, .f32⟩
  | 65 => ⟨S_, .f32⟩
  | 66 => ⟨S5000x5000x2, .f32⟩
  | 67 => ⟨S5000x5000x2, .f32⟩
  | 68 => ⟨S5000x5000x1, .f32⟩
  | 69 => ⟨S5000x5000, .f32⟩
  | 70 => ⟨S5000x5000x1, .f32⟩
  | 71 => ⟨S5000x5000, .f32⟩
  | 72 => ⟨S5000x5000, .f32⟩
  | 73 => ⟨S5000x1, .f32⟩
  | 74 => ⟨S1x5000, .f32⟩
  | 75 => ⟨S5000x5000, .f32⟩
  | 76 => ⟨S5000x5000, .f32⟩
  | 77 => ⟨S5000x5000, .f32⟩
  | 78 => ⟨S5000x5000, .f32⟩
  | 79 => ⟨S_, .f32⟩
  | 80 => ⟨S5000x5000, .f32⟩
  | 81 => ⟨S5000x5000, .f32⟩
  | 82 => ⟨S5000x5000, .f32⟩
  | 83 => ⟨S5000, .i32⟩
  | 84 => ⟨S_, .i1⟩
  | 85 => ⟨S5000, .i1⟩
  | 86 => ⟨S_, .i32⟩
  | 87 => ⟨S_, .i32⟩
  | 88 => ⟨S5000x5000, .f32⟩
  | 89 => ⟨S5000, .i32⟩
  | 90 => ⟨S_, .i32⟩
  | 91 => ⟨S_, .i32⟩
  | 92 => ⟨S5000, .i1⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S1x5000, .f32⟩
  | 112 => ⟨S5000, .f32⟩
  | 113 => ⟨S_, .f32⟩
  | 114 => ⟨S5000, .f32⟩
  | 115 => ⟨S5000, .i1⟩
  | 116 => ⟨S5000, .i1⟩
  | 117 => ⟨S_, .i32⟩
  | 118 => ⟨S5000, .i32⟩
  | 119 => ⟨S5000, .i1⟩
  | 120 => ⟨S5000, .i1⟩
  | 121 => ⟨S_, .i1⟩
  | 122 => ⟨S_, .i1⟩
  | 123 => ⟨S_, .i1⟩
  | 124 => ⟨S_, .i32⟩
  | 125 => ⟨S_, .i1⟩
  | 126 => ⟨S_, .i32⟩
  | 127 => ⟨S_, .i32⟩
  | _ => ⟨S5000x4, .f32⟩

abbrev hbmTy0_1 (i : Nat) : BufTy := match i % 128 with
  | 0 => ⟨S_, .i32⟩
  | 1 => ⟨S_, .i32⟩
  | 2 => ⟨S1, .i32⟩
  | 3 => ⟨S5000, .i1⟩
  | 4 => ⟨S_, .i32⟩
  | 5 => ⟨S_, .i32⟩
  | 6 => ⟨S_, .i1⟩
  | 7 => ⟨S5000, .i1⟩
  | 8 => ⟨S_, .i32⟩
  | 9 => ⟨S5000, .i32⟩
  | 10 => ⟨S5000, .i1⟩
  | 11 => ⟨S_, .i32⟩
  | 12 => ⟨S5000, .i32⟩
  | 13 => ⟨S5000, .i32⟩
  | 14 => ⟨S5000, .i32⟩
  | 15 => ⟨S5000x1, .i32⟩
  | 16 => ⟨S5000, .i1⟩
  | 17 => ⟨S_, .f32⟩
  | 18 => ⟨S5000, .f32⟩
  | 19 => ⟨S5000, .i1⟩
  | 20 => ⟨S5000, .i1⟩
  | 21 => ⟨S_, .i32⟩
  | 22 => ⟨S5000, .i32⟩
  | 23 => ⟨S5000, .i1⟩
  | 24 => ⟨S5000, .i1⟩
  | 25 => ⟨S_, .f32⟩
  | 26 => ⟨S_, .f32⟩
  | 27 => ⟨S5000, .f32⟩
  | 28 => ⟨S5000, .f32⟩
  | 29 => ⟨S5000, .i1⟩
  | 30 => ⟨S5000, .i1⟩
  | 31 => ⟨S_, .f32⟩
  | 32 => ⟨S_, .f32⟩
  | 33 => ⟨S5000, .f32⟩
  | 34 => ⟨S5000, .f32⟩
  | 35 => ⟨S15, .f32⟩
  | 36 => ⟨S15, .i32⟩
  | 37 => ⟨S15, .f32⟩
  | 38 => ⟨S15, .i32⟩
  | 39 => ⟨S30, .i32⟩
  | 40 => ⟨S_, .i32⟩
  | 41 => ⟨S30, .i32⟩
  | 42 => ⟨S30, .i1⟩
  | 43 => ⟨S_, .i32⟩
  | 44 => ⟨S30, .i32⟩
  | 45 => ⟨S30, .i32⟩
  | 46 => ⟨S30, .i32⟩
  | 47 => ⟨S30x1, .i32⟩
  | 48 => ⟨S30, .f32⟩
  | 49 => ⟨S_, .i32⟩
  | 50 => ⟨S30, .i32⟩
  | 51 => ⟨S30, .i1⟩
  | 52 => ⟨S_, .i32⟩
  | 53 => ⟨S30, .i32⟩
  | 54 => ⟨S30, .i32⟩
  | 55 => ⟨S30, .i32⟩
  | 56 => ⟨S30x1, .i32⟩
  | 57 => ⟨S30x256, .f32⟩
  | 58 => ⟨S_, .i32⟩
  | 59 => ⟨S30, .i32⟩
  | 60 => ⟨S30, .i1⟩
  | 61 => ⟨S_, .i32⟩
  | 62 => ⟨S30, .i32⟩
  | 63 => ⟨S30, .i32⟩
  | 64 => ⟨S30, .i32⟩
  | 65 => ⟨S30x1, .i32⟩
  | 66 => ⟨S30x4, .f32⟩
  | 67 => ⟨S30, .f32⟩
  | 68 => ⟨S30, .f32⟩
  | 69 => ⟨S_, .f32⟩
  | 70 => ⟨S30, .f32⟩
  | 71 => ⟨S30, .f32⟩
  | 72 => ⟨S_, .f32⟩
  | 73 => ⟨S30, .f32⟩
  | 74 => ⟨S30, .f32⟩
  | 75 => ⟨S30x1, .f32⟩
  | 76 => ⟨S30x256, .f32⟩
  | 77 => ⟨S30x256, .f32⟩
  | 78 => ⟨S30x260, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1_0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_2 : Ref sig .tc := ⟨.hbm, 64, rfl⟩
abbrev main_call1_v0 : Ref sig .tc := ⟨.hbm, 65, rfl⟩
abbrev main_call1_v1 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_3 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_c_4 : Ref sig .tc := ⟨.hbm, 84, rfl⟩
abbrev main_v70 : Ref sig .tc := ⟨.hbm, 85, rfl⟩
abbrev main_c_5 : Ref sig .tc := ⟨.hbm, 86, rfl⟩
abbrev main_c_6 : Ref sig .tc := ⟨.hbm, 87, rfl⟩
abbrev main_v71_0 : Ref sig .tc := ⟨.hbm, 88, rfl⟩
abbrev main_v71_1 : Ref sig .tc := ⟨.hbm, 89, rfl⟩
abbrev main_v71_2 : Ref sig .tc := ⟨.hbm, 90, rfl⟩
abbrev main_v71_3 : Ref sig .tc := ⟨.hbm, 91, rfl⟩
abbrev main_v71_4 : Ref sig .tc := ⟨.hbm, 92, rfl⟩
abbrev main_while0c_c_28 : Ref sig .tc := ⟨.hbm, 93, rfl⟩
abbrev main_while0c_v122 : Ref sig .tc := ⟨.hbm, 94, rfl⟩
abbrev main_while0b_c_28 : Ref sig .tc := ⟨.hbm, 95, rfl⟩
abbrev main_while0b_v122 : Ref sig .tc := ⟨.hbm, 96, rfl⟩
abbrev main_while0b_v123 : Ref sig .tc := ⟨.hbm, 97, rfl⟩
abbrev main_while0b_c_29 : Ref sig .tc := ⟨.hbm, 98, rfl⟩
abbrev main_while0b_v124 : Ref sig .tc := ⟨.hbm, 99, rfl⟩
abbrev main_while0b_c_30 : Ref sig .tc := ⟨.hbm, 100, rfl⟩
abbrev main_while0b_v125 : Ref sig .tc := ⟨.hbm, 101, rfl⟩
abbrev main_while0b_v126 : Ref sig .tc := ⟨.hbm, 102, rfl⟩
abbrev main_while0b_c_31 : Ref sig .tc := ⟨.hbm, 103, rfl⟩
abbrev main_while0b_c_32 : Ref sig .tc := ⟨.hbm, 104, rfl⟩
abbrev main_while0b_v127 : Ref sig .tc := ⟨.hbm, 105, rfl⟩
abbrev main_while0b_c_33 : Ref sig .tc := ⟨.hbm, 106, rfl⟩
abbrev main_while0b_c_34 : Ref sig .tc := ⟨.hbm, 107, rfl⟩
abbrev main_while0b_v128 : Ref sig .tc := ⟨.hbm, 108, rfl⟩
abbrev main_while0b_c_35 : Ref sig .tc := ⟨.hbm, 109, rfl⟩
abbrev main_while0b_v129 : Ref sig .tc := ⟨.hbm, 110, rfl⟩
abbrev main_while0b_v130 : Ref sig .tc := ⟨.hbm, 111, rfl⟩
abbrev main_while0b_v131 : Ref sig .tc := ⟨.hbm, 112, rfl⟩
abbrev main_while0b_cst_36 : Ref sig .tc := ⟨.hbm, 113, rfl⟩
abbrev main_while0b_v132 : Ref sig .tc := ⟨.hbm, 114, rfl⟩
abbrev main_while0b_v133 : Ref sig .tc := ⟨.hbm, 115, rfl⟩
abbrev main_while0b_v134 : Ref sig .tc := ⟨.hbm, 116, rfl⟩
abbrev main_while0b_v135 : Ref sig .tc := ⟨.hbm, 117, rfl⟩
abbrev main_while0b_v136 : Ref sig .tc := ⟨.hbm, 118, rfl⟩
abbrev main_while0b_v137 : Ref sig .tc := ⟨.hbm, 119, rfl⟩
abbrev main_while0b_v138 : Ref sig .tc := ⟨.hbm, 120, rfl⟩
abbrev main_while0b_c_37 : Ref sig .tc := ⟨.hbm, 121, rfl⟩
abbrev main_while0b_v139 : Ref sig .tc := ⟨.hbm, 122, rfl⟩
abbrev main_while0b_v140 : Ref sig .tc := ⟨.hbm, 123, rfl⟩
abbrev main_while0b_c_38 : Ref sig .tc := ⟨.hbm, 124, rfl⟩
abbrev main_while0b_v141 : Ref sig .tc := ⟨.hbm, 125, rfl⟩
abbrev main_while0b_c_39 : Ref sig .tc := ⟨.hbm, 126, rfl⟩
abbrev main_while0b_v142 : Ref sig .tc := ⟨.hbm, 127, rfl⟩
abbrev main_while0b_v143 : Ref sig .tc := ⟨.hbm, 128, rfl⟩
abbrev main_while0b_v144 : Ref sig .tc := ⟨.hbm, 129, rfl⟩
abbrev main_while0b_v145 : Ref sig .tc := ⟨.hbm, 130, rfl⟩
abbrev main_while0b_v146 : Ref sig .tc := ⟨.hbm, 131, rfl⟩
abbrev main_while0b_c_40 : Ref sig .tc := ⟨.hbm, 132, rfl⟩
abbrev main_while0b_v147 : Ref sig .tc := ⟨.hbm, 133, rfl⟩
abbrev main_c_7 : Ref sig .tc := ⟨.hbm, 134, rfl⟩
abbrev main_v72 : Ref sig .tc := ⟨.hbm, 135, rfl⟩
abbrev main_c_8 : Ref sig .tc := ⟨.hbm, 136, rfl⟩
abbrev main_v73 : Ref sig .tc := ⟨.hbm, 137, rfl⟩
abbrev main_v74 : Ref sig .tc := ⟨.hbm, 138, rfl⟩
abbrev main_c_9 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_10 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_c_11 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_cst_12 : Ref sig .tc := ⟨.hbm, 153, rfl⟩
abbrev main_call2_v0 : Ref sig .tc := ⟨.hbm, 154, rfl⟩
abbrev main_call2_v1 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_cst_13 : Ref sig .tc := ⟨.hbm, 159, rfl⟩
abbrev main_call3_v0 : Ref sig .tc := ⟨.hbm, 160, rfl⟩
abbrev main_call3_v1 : Ref sig .tc := ⟨.hbm, 161, rfl⟩
abbrev main_v89 : Ref sig .tc := ⟨.hbm, 162, rfl⟩
abbrev main_values : Ref sig .tc := ⟨.hbm, 163, rfl⟩
abbrev main_indices : Ref sig .tc := ⟨.hbm, 164, rfl⟩
abbrev main_values_14 : Ref sig .tc := ⟨.hbm, 165, rfl⟩
abbrev main_indices_15 : Ref sig .tc := ⟨.hbm, 166, rfl⟩
abbrev main_v90 : Ref sig .tc := ⟨.hbm, 167, rfl⟩
abbrev main_c_16 : Ref sig .tc := ⟨.hbm, 168, rfl⟩
abbrev main_v91 : Ref sig .tc := ⟨.hbm, 169, rfl⟩
abbrev main_v92 : Ref sig .tc := ⟨.hbm, 170, rfl⟩
abbrev main_c_17 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_c_18 : Ref sig .tc := ⟨.hbm, 177, rfl⟩
abbrev main_v98 : Ref sig .tc := ⟨.hbm, 178, rfl⟩
abbrev main_v99 : Ref sig .tc := ⟨.hbm, 179, rfl⟩
abbrev main_c_19 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_c_20 : Ref sig .tc := ⟨.hbm, 186, rfl⟩
abbrev main_v105 : Ref sig .tc := ⟨.hbm, 187, rfl⟩
abbrev main_v106 : Ref sig .tc := ⟨.hbm, 188, rfl⟩
abbrev main_c_21 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_cst_22 : Ref sig .tc := ⟨.hbm, 197, rfl⟩
abbrev main_v114 : Ref sig .tc := ⟨.hbm, 198, rfl⟩
abbrev main_v115 : Ref sig .tc := ⟨.hbm, 199, rfl⟩
abbrev main_cst_23 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩

abbrev nD : Nat := 1
abbrev τ : Topo := Topo.v7x

variable {F : FTy → Type} [FloatOps F]

abbrev main_while0_count : Scf.Loop 32 := ⟨0#32, 5000#32, 1#32⟩
-- ==== Proof.PI.Program.lean ====
/-
  The kernel's body written once more, in a few short definitions: the pure arithmetic of one row, one step of the
  suppression loop, one step of the fill loop, one output row. `while_eq` and `body_eq` say that these are the printed
  programs; everything after this file speaks of the short forms only. All of it holds for every choice of float values.
-/
module

public import proofs.«01_k».proof.Proof.Gen.KernelIdeal
public import Idealize.ShloMosaic.Lib.Tactic

@[expose] public section

noncomputable section

namespace Cert.Proof.PI

open Cert.KernelIdeal Cert.KernelIdeal.Gen
open Idealize.ShloMosaic Idealize.ShloMosaic.TcCoe
open Idealize.SL.Sem

variable {F : FTy → Type} [FloatOps F]

/-! ## The buffers -/

abbrev bX0 : Memref sig .tc .vmem S40x128 .f32 := Memref.whole cc0_stg0_0
abbrev bY0 : Memref sig .tc .vmem S40x128 .f32 := Memref.whole cc0_stg1_0
abbrev bX1 : Memref sig .tc .vmem S40x128 .f32 := Memref.whole cc0_stg2_0
abbrev bY1 : Memref sig .tc .vmem S40x128 .f32 := Memref.whole cc0_stg3_0
abbrev bAr : Memref sig .tc .vmem S40x128 .f32 := Memref.whole cc0_stg4_0
abbrev bSc : Memref sig .tc .vmem S40x128 .f32 := Memref.whole cc0_stg5_0
abbrev bHu : Memref sig .tc .vmem S40x128 .i32 := Memref.whole cc0_stg6_0
abbrev bPe : Memref sig .tc .vmem S40x128 .i32 := Memref.whole cc0_stg7_0
abbrev bOX0 : Memref sig .tc .vmem S40x128 .f32 := Memref.whole cc0_stg8_0
abbrev bOY0 : Memref sig .tc .vmem S40x128 .f32 := Memref.whole cc0_stg9_0
abbrev bOX1 : Memref sig .tc .vmem S40x128 .f32 := Memref.whole cc0_stg10_0
abbrev bOY1 : Memref sig .tc .vmem S40x128 .f32 := Memref.whole cc0_stg11_0
abbrev bOS : Memref sig .tc .vmem S40x128 .f32 := Memref.whole cc0_stg12_0
abbrev bOut : Memref sig .tc .vmem S30x128 .f32 := Memref.whole cc0_stg13_0
abbrev bKeep : Memref sig .tc .vmem S40x128 .f32 := Memref.whole cc0_scratch0
abbrev bSelH : Memref sig .tc .vmem S8x128 .i32 := Memref.whole cc0_scratch1
abbrev bSelO : Memref sig .tc .vmem S8x128 .i32 := Memref.whole cc0_scratch2

/-! ## Pure arithmetic on one row of 128 lanes -/

/-- The lane numbers 0 … 127. -/
def lane : IVec S1x128 32 := iota .tc S1x128 32 [1] iota_S1x128_d1_w32

/-- The sum of a row's lanes, from zero. -/
def sumF (v : FVec F S1x128 .f32) : F .f32 :=
  extractAt ![0, 0, 0] (shapeCast S1x1x1 (multiReduction .add [1, 2] S1
    (shapeCast S1x1x128 v shapeCasts_S1x128_S1x1x128) 0x00000000#32 reduces_S1x1x128_S1 (.inl rfl) rfl) shapeCasts_S1_S1x1x1)
    inpos_S1x1x1_p0_0_0

def sumI (v : IVec S1x128 32) : BitVec 32 :=
  extractAt ![0, 0, 0] (shapeCast S1x1x1 (multiReductionI .add [1, 2] S1
    (shapeCast S1x1x128 v shapeCasts_S1x128_S1x1x128) 0#32 reduces_S1x1x128_S1 rfl) shapeCasts_S1_S1x1x1)
    inpos_S1x1x1_p0_0_0

/-- The lane `c` of a row, as the kernel reads it: every other lane replaced by zero, then summed. -/
def extF (v : FVec F S1x128 .f32) (c : BitVec 32) : F .f32 :=
  sumF (select (cmpi .eq lane (broadcast S1x128 c)) (shapeCast S1x128 v shapeCasts_S1x128_S1x128)
    (broadcast S1x128 (Scalar.ofBits .f32 0x00000000#32)))

def extI (v : IVec S1x128 32) (c : BitVec 32) : BitVec 32 :=
  sumI (select (cmpi .eq lane (broadcast S1x128 c)) (shapeCast S1x128 v shapeCasts_S1x128_S1x128) (broadcast S1x128 (0#32 : BitVec 32)))

/-- The same of a selection row, which the kernel does not reshape first. -/
def extS (v : IVec S1x128 32) (c : BitVec 32) : BitVec 32 :=
  sumI (select (cmpi .eq lane (broadcast S1x128 c)) v (broadcast S1x128 (0#32 : BitVec 32)))

/-- A row with lane `c` replaced. -/
def putI (v : IVec S1x128 32) (c x : BitVec 32) : IVec S1x128 32 :=
  shapeCast S1x128 (select (cmpi .eq lane (broadcast S1x128 c)) (broadcast S1x128 x) v) shapeCasts_S1x128_S1x128

def putF (v : FVec F S1x128 .f32) (c : BitVec 32) (x : F .f32) : FVec F S1x128 .f32 :=
  shapeCast S1x128 (select (cmpi .eq lane (broadcast S1x128 c)) (broadcast S1x128 x) v) shapeCasts_S1x128_S1x128

/-- The number of suppressors in one row of 128 sorted positions: those before `t`, kept, and overlapping the box
    `(x0, y0, x1, y1)` of area `ar` by more than one half. `k` is the row. -/
def hits (t k : BitVec 32) (x0 y0 x1 y1 ar : F .f32) (jx0 jy0 jx1 jy1 ja kb : FVec F S1x128 .f32) : F .f32 :=
  let w : FVec F S1x128 .f32 := maximumf (subf (minimumf (shapeCast S1x128 jx1 shapeCasts_S1x128_S1x128) (broadcast S1x128 x1))
    (maximumf (shapeCast S1x128 jx0 shapeCasts_S1x128_S1x128) (broadcast S1x128 x0))) (broadcast S1x128 (Scalar.ofBits .f32 0x00000000#32))
  let h : FVec F S1x128 .f32 := maximumf (subf (minimumf (shapeCast S1x128 jy1 shapeCasts_S1x128_S1x128) (broadcast S1x128 y1))
    (maximumf (shapeCast S1x128 jy0 shapeCasts_S1x128_S1x128) (broadcast S1x128 y0))) (broadcast S1x128 (Scalar.ofBits .f32 0x00000000#32))
  let inter : FVec F S1x128 .f32 := mulf w h
  let iou : FVec F S1x128 .f32 := divf inter (addf (subf (addf (broadcast S1x128 ar) (shapeCast S1x128 ja shapeCasts_S1x128_S1x128)) inter)
    (broadcast S1x128 (Scalar.ofBits .f32 0x3089705F#32)))
  let hit : IVec S1x128 1 := andi (andi (cmpf .ogt iou (broadcast S1x128 (Scalar.ofBits .f32 0x3F000000#32)))
      (cmpf .ogt kb (broadcast S1x128 (Scalar.ofBits .f32 0x3F000000#32))))
    (cmpi .slt (addi lane (broadcast S1x128 (Scalar.muli k 128#32))) (broadcast S1x128 t))
  sumF (select hit (broadcast S1x128 (Scalar.ofBits .f32 0x3F800000#32)) (broadcast S1x128 (Scalar.ofBits .f32 0x00000000#32)))

/-- Whether the fill loop writes index `o`: it is not among the row's first `nv` lanes and `cnt` of the free places are taken. -/
def fillTake (nv o cnt : BitVec 32) (row : IVec S1x128 32) : BitVec 1 :=
  Scalar.andi (Scalar.xori (Scalar.cmpf .ogt
      (sumF (select (andi (cmpf .oeq (sitofp .f32 row) (broadcast S1x128 (Scalar.sitofp .f32 o : F .f32))) (cmpi .slt lane (broadcast S1x128 nv)))
        (broadcast S1x128 (Scalar.ofBits .f32 0x3F800000#32)) (broadcast S1x128 (Scalar.ofBits .f32 0x00000000#32)) : FVec F S1x128 .f32))
      (Scalar.ofBits .f32 0x3F000000#32 : F .f32)) 1#1)
    (Scalar.cmpi .slt cnt (Scalar.subi 15#32 nv))

/-- Lane `k` at `x`, every other lane at zero. -/
def pick (k : BitVec 32) (x : F .f32) : FVec F S1x128 .f32 :=
  select (cmpi .eq lane (broadcast S1x128 k)) (broadcast S1x128 x) (broadcast S1x128 (Scalar.ofBits .f32 0x00000000#32))

/-- One output row: the original index, the sigmoid of its score and its four box coordinates in lanes 0 … 5. -/
def outRow (oi : BitVec 32) (s x0 y0 x1 y1 : FVec F S1x128 .f32) : FVec F S1x128 .f32 :=
  let cl : BitVec 32 := Scalar.andi oi 127#32
  let sg : F .f32 := Scalar.divf (Scalar.ofBits .f32 0x3F800000#32)
    (Scalar.addf (Scalar.ofBits .f32 0x3F800000#32) (Scalar.exp (Scalar.subf (Scalar.ofBits .f32 0x00000000#32) (extF s cl))))
  addf (addf (addf (addf (addf (pick 0#32 (Scalar.sitofp .f32 oi)) (pick 1#32 sg)) (pick 2#32 (extF x0 cl))) (pick 3#32 (extF y0 cl)))
    (pick 4#32 (extF x1 cl))) (pick 5#32 (extF y1 cl))

/-! ## The programs -/

variable (F) in
/-- The kernel's programs. -/
abbrev TProg (α : Type) := Prog (TpuEff nD τ sig (Elt F) (Λ₀ F) .tc) α

/-- Load one row of a 40 × 128 buffer. -/
def ldRow {e : EltTy} (b : Memref sig .tc .vmem S40x128 e) (off : Fin 2 → ℕ) (h : ∀ a, off a + S1x128.size a ≤ S40x128.size a) :
    TProg F (Vec F S1x128 e) :=
  Prog.lift (.load b (Rect.unit (s := S40x128) off S1x128.size h).toLoadRect (View.loadsAt_vmem h_S1x128))

/-- Load the first row of a selection buffer. -/
def ldSel (b : Memref sig .tc .vmem S8x128 .i32) : TProg F (Vec F S1x128 .i32) :=
  Prog.lift (.load b (Rect.unit (s := S8x128) ![0, 0] S1x128.size inb_S8x128_S1x128_0_0).toLoadRect (View.loadsAt_vmem h_S1x128))

/-- Replace lane `c` of the first row of a selection buffer (the second load is not used). -/
def putSel (b : Memref sig .tc .vmem S8x128 .i32) (c x : BitVec 32) : TProg F PUnit := do
  let row : Vec F S1x128 .i32 ← ldSel b
  let _unused : Vec F S1x128 .i32 ← ldSel b
  Prog.lift (.store b (Rect.unit (s := S8x128) ![0, 0] S1x128.size inb_S8x128_S1x128_0_0) (putI row c x) Finset.univ
    (View.stores_vmem_bits_univ h_S1x128 rfl) (.inl rfl))
  pure ⟨⟩

/-- One trip of the overlap count: row `k` of the sorted positions. -/
def hitsStep (t k : BitVec 32) (off : Fin 2 → ℕ) (h : ∀ a, off a + S1x128.size a ≤ S40x128.size a) (x0 y0 x1 y1 ar acc : F .f32) :
    TProg F (F .f32) := do
  let jx0 : Vec F S1x128 .f32 ← ldRow bX0 off h
  let jy0 : Vec F S1x128 .f32 ← ldRow bY0 off h
  let jx1 : Vec F S1x128 .f32 ← ldRow bX1 off h
  let jy1 : Vec F S1x128 .f32 ← ldRow bY1 off h
  let ja : Vec F S1x128 .f32 ← ldRow bAr off h
  let kb : Vec F S1x128 .f32 ← ldRow bKeep off h
  pure (Scalar.addf acc (hits t k x0 y0 x1 y1 ar jx0 jy0 jx1 jy1 ja kb))

/-- Mark position `t` kept, when it is. -/
def keepStep (t : BitVec 32) (act free : BitVec 1) (hw : k0_chk2 t act free) : TProg F PUnit :=
  if h : k0_cond1 act free = 1#1 then do
    let row : Vec F S1x128 .f32 ← ldRow bKeep (k0_off4 t) (k0_off4_inb t act free hw h)
    let _unused : Vec F S1x128 .f32 ← ldRow bKeep (k0_off4 t) (k0_off4_inb t act free hw h)
    Prog.lift (.store bKeep (Rect.unit (s := S40x128) (k0_off4 t) S1x128.size (k0_off4_inb t act free hw h))
      (putF row (Scalar.andi t 127#32) (Scalar.ofBits .f32 0x3F800000#32)) Finset.univ (View.stores_vmem_bits_univ h_S1x128 rfl) (.inl rfl))
    pure ⟨⟩
  else do
    pure ⟨⟩

/-- The part of the step after the keep decision: the two selection lists and the four carried words. -/
def selStep (t nh no : BitVec 32) (act kept hum : BitVec 1) (pt : BitVec 32) : TProg F (BitVec 32 × BitVec 32 × BitVec 32 × BitVec 32) := do
  let takeh : BitVec 1 := Scalar.andi (Scalar.andi kept hum) (Scalar.cmpi .slt nh 15#32)
  let takeo : BitVec 1 := Scalar.andi (Scalar.andi kept (Scalar.xori hum 1#1)) (Scalar.cmpi .slt no 15#32)
  if Scalar.cmpi .ne (Scalar.extui takeh : BitVec 32) 0#32 = 1#1 then do
    putSel bSelH nh pt
  else do
    pure ⟨⟩
  if Scalar.cmpi .ne (Scalar.extui takeo : BitVec 32) 0#32 = 1#1 then do
    putSel bSelO no pt
  else do
    pure ⟨⟩
  let nh' : BitVec 32 := Scalar.addi nh (Scalar.select takeh 1#32 0#32)
  let no' : BitVec 32 := Scalar.addi no (Scalar.select takeo 1#32 0#32)
  let t' : BitVec 32 := Scalar.addi t 1#32
  let go : BitVec 1 := Scalar.andi (Scalar.andi act (Scalar.cmpi .slt t' 5120#32)) (Scalar.ori (Scalar.cmpi .slt nh' 15#32) (Scalar.cmpi .slt no' 15#32))
  pure (t', nh', no', Scalar.select go 1#32 0#32)

/-- One step of the suppression loop at sorted position `t`, with `nh` and `no` places taken so far. -/
def nmsStep (t nh no : BitVec 32) : TProg F (BitVec 32 × BitVec 32 × BitVec 32 × BitVec 32) := do
  have hw : k0_chk1 t := (← Prog.lift (TpuEff.assume (k0_chk1 t) (k0_chk1.dec t))).down
  let cl : BitVec 32 := Scalar.andi t 127#32
  let rs : Vec F S1x128 .f32 ← ldRow bSc (k0_off1 t) (k0_off1_inb t hw)
  let act : BitVec 1 := Scalar.cmpf .oge (extF rs cl) (Scalar.ofBits .f32 0x3E4CCCCD#32 : F .f32)
  let r0 : Vec F S1x128 .f32 ← ldRow bX0 (k0_off1 t) (k0_off1_inb t hw)
  let r1 : Vec F S1x128 .f32 ← ldRow bY0 (k0_off1 t) (k0_off1_inb t hw)
  let r2 : Vec F S1x128 .f32 ← ldRow bX1 (k0_off1 t) (k0_off1_inb t hw)
  let r3 : Vec F S1x128 .f32 ← ldRow bY1 (k0_off1 t) (k0_off1_inb t hw)
  let r4 : Vec F S1x128 .f32 ← ldRow bAr (k0_off1 t) (k0_off1_inb t hw)
  let s1 : F .f32 ← Scf.Loop.for (k0_t1_loop t) (k0_t1_ok t hw) (Scalar.ofBits .f32 0x00000000#32) fun k acc =>
    hitsStep t (Scf.iv 0#32 1#32 k) (k0_off2 t k) (k0_off2_inb t hw k) (extF r0 cl) (extF r1 cl) (extF r2 cl) (extF r3 cl) (extF r4 cl) acc
  let s2 : F .f32 ← Scf.Loop.for (k0_t2_loop t) (k0_t2_ok t hw) s1 fun k acc =>
    hitsStep t (Scf.iv (Scalar.addi 0#32 (Scalar.muli (Scalar.divsi (Scalar.subi (Scalar.addi (Scalar.shrui t 7#32) 1#32) 0#32) 1#32) 1#32)) 1#32 k)
      (k0_off3 t k) (k0_off3_inb t hw k) (extF r0 cl) (extF r1 cl) (extF r2 cl) (extF r3 cl) (extF r4 cl) acc
  let free : BitVec 1 := Scalar.cmpf .olt s2 (Scalar.ofBits .f32 0x3F000000#32)
  have hw2 : k0_chk2 t act free := (← Prog.lift (TpuEff.assume (k0_chk2 t act free) (k0_chk2.dec t act free))).down
  keepStep t act free hw2
  let rh : Vec F S1x128 .i32 ← ldRow bHu (k0_off5 t) (k0_off5_inb t hw)
  let hum : BitVec 1 := Scalar.cmpf .ogt (Scalar.sitofp .f32 (extI rh cl) : F .f32) (Scalar.ofBits .f32 0x3F000000#32)
  let rp : Vec F S1x128 .i32 ← ldRow bPe (k0_off5 t) (k0_off5_inb t hw)
  selStep t nh no act (Scalar.andi act free) hum (extI rp cl)

/-- The loop's label called on the kernel's own buffers. -/
abbrev whileArgs (t nh no go : BitVec 32) : Cc0While1 F :=
  ⟨bSc, Memref.isWhole_whole _, lane, bX0, Memref.isWhole_whole _, bY0, Memref.isWhole_whole _, bX1, Memref.isWhole_whole _,
    bY1, Memref.isWhole_whole _, bAr, Memref.isWhole_whole _, bKeep, Memref.isWhole_whole _, bHu, Memref.isWhole_whole _,
    bPe, Memref.isWhole_whole _, bSelH, Memref.isWhole_whole _, bSelO, Memref.isWhole_whole _, t, nh, no, go⟩

/-- The suppression loop: a step and the loop again while the fourth word is one. -/
def nmsLoop (t nh no go : BitVec 32) : TProg F (BitVec 32 × BitVec 32 × BitVec 32 × BitVec 32) := do
  if Scalar.cmpi .eq go 1#32 = 1#1 then do
    let (t', nh', no', go') : BitVec 32 × BitVec 32 × BitVec 32 × BitVec 32 ← nmsStep t nh no
    Prog.lift (.call (1 : (Λ₀ F).Label) (whileArgs t' nh' no' go'))
  else pure (t, nh, no, go)

/-- One trip of the fill loop of a selection buffer with `nv` places taken by the suppression loop. -/
def fillStep (b : Memref sig .tc .vmem S8x128 .i32) (nv o cnt : BitVec 32) : TProg F (BitVec 32) := do
  let row : Vec F S1x128 .i32 ← ldSel b
  if Scalar.cmpi .ne (Scalar.extui (fillTake (F := F) nv o cnt row) : BitVec 32) 0#32 = 1#1 then do
    putSel b (Scalar.addi nv cnt) o
  else do
    pure ⟨⟩
  pure (Scalar.addi cnt (Scalar.select (fillTake (F := F) nv o cnt row) 1#32 0#32))

/-- One output row: place `l` of a selection buffer, written to row `n` of the result. -/
def rowStep (b : Memref sig .tc .vmem S8x128 .i32) (l n : ℕ) (hn : ∀ a, (![n, 0] : Fin 2 → ℕ) a + S1x128.size a ≤ S30x128.size a) : TProg F PUnit := do
  let sel : Vec F S1x128 .i32 ← ldSel b
  let oi : BitVec 32 := extS sel (BitVec.ofNat 32 l)
  have hw : k0_chk3 oi := (← Prog.lift (TpuEff.assume (k0_chk3 oi) (k0_chk3.dec oi))).down
  let rs : Vec F S1x128 .f32 ← ldRow bOS (k0_off6 oi) (k0_off6_inb oi hw)
  let r0 : Vec F S1x128 .f32 ← ldRow bOX0 (k0_off6 oi) (k0_off6_inb oi hw)
  let r1 : Vec F S1x128 .f32 ← ldRow bOY0 (k0_off6 oi) (k0_off6_inb oi hw)
  let r2 : Vec F S1x128 .f32 ← ldRow bOX1 (k0_off6 oi) (k0_off6_inb oi hw)
  let r3 : Vec F S1x128 .f32 ← ldRow bOY1 (k0_off6 oi) (k0_off6_inb oi hw)
  let _unused : Vec F S1x128 .f32 ← Prog.lift (.load bOut (Rect.unit (s := S30x128) ![n, 0] S1x128.size hn).toLoadRect (View.loadsAt_vmem h_S1x128))
  Prog.lift (.store bOut (Rect.unit (s := S30x128) ![n, 0] S1x128.size hn) (outRow oi rs r0 r1 r2 r3) Finset.univ
    (View.stores_vmem_bits_univ h_S1x128 rfl) (.inl rfl))

/-- A row number below 30 names a row of the result. -/
theorem row_inb {n : ℕ} (h : n < 30) : ∀ a, (![n, 0] : Fin 2 → ℕ) a + S1x128.size a ≤ S30x128.size a := fun a => by
  match a with
  | ⟨0, _⟩ => show n + 1 ≤ 30; omega
  | ⟨1, _⟩ => show 0 + 128 ≤ 128; omega

/-- The last `k` of the fifteen output rows of one selection buffer, rows `base … base + 14` of the result. -/
def rows (b : Memref sig .tc .vmem S8x128 .i32) (base : ℕ) (hb : base + 15 ≤ 30) : (k l : ℕ) → l + k ≤ 15 → TProg F PUnit
  | 0, _, _ => pure ⟨⟩
  | k + 1, l, h => do
    rowStep b l (base + l) (row_inb (by omega))
    rows b base hb k (l + 1) (by omega)

/-- The three scratch buffers cleared (each first loaded, the value unused). -/
def clear : TProg F PUnit := do
  let _u0 : Vec F S40x128 .f32 ← Prog.lift (.load bKeep (Rect.unit (s := S40x128) ![0, 0] S40x128.size inb_S40x128_S40x128_0_0).toLoadRect (View.loadsAt_vmem h_S40x128))
  Prog.lift (.store bKeep (Rect.unit (s := S40x128) ![0, 0] S40x128.size inb_S40x128_S40x128_0_0)
    (shapeCast S40x128 (broadcast S40x128 (Scalar.ofBits .f32 0x00000000#32 : F .f32)) shapeCasts_S40x128_S40x128) Finset.univ (View.stores_vmem_bits_univ h_S40x128 rfl) (.inl rfl))
  let _u1 : Vec F S8x128 .i32 ← Prog.lift (.load bSelH (Rect.unit (s := S8x128) ![0, 0] S8x128.size inb_S8x128_S8x128_0_0).toLoadRect (View.loadsAt_vmem h_S8x128))
  Prog.lift (.store bSelH (Rect.unit (s := S8x128) ![0, 0] S8x128.size inb_S8x128_S8x128_0_0)
    (shapeCast S8x128 (broadcast S8x128 (0#32 : BitVec 32)) shapeCasts_S8x128_S8x128) Finset.univ (View.stores_vmem_bits_univ h_S8x128 rfl) (.inl rfl))
  let _u2 : Vec F S8x128 .i32 ← Prog.lift (.load bSelO (Rect.unit (s := S8x128) ![0, 0] S8x128.size inb_S8x128_S8x128_0_0).toLoadRect (View.loadsAt_vmem h_S8x128))
  Prog.lift (.store bSelO (Rect.unit (s := S8x128) ![0, 0] S8x128.size inb_S8x128_S8x128_0_0)
    (shapeCast S8x128 (broadcast S8x128 (0#32 : BitVec 32)) shapeCasts_S8x128_S8x128) Finset.univ (View.stores_vmem_bits_univ h_S8x128 rfl) (.inl rfl))

/-- The kernel's body. -/
def kernelBody : TProg F PUnit := do
  clear
  let (_t, nh, no, _go) : BitVec 32 × BitVec 32 × BitVec 32 × BitVec 32 ← Prog.lift (.call (1 : (Λ₀ F).Label) (whileArgs 0#32 0#32 0#32 1#32))
  let _c1 : BitVec 32 ← Scf.Loop.for k0_t3_loop k0_t3_ok 0#32 fun k cnt => fillStep bSelH nh (Scf.iv 0#32 1#32 k) cnt
  let _c2 : BitVec 32 ← Scf.Loop.for k0_t4_loop k0_t4_ok 0#32 fun k cnt => fillStep bSelO no (Scf.iv 0#32 1#32 k) cnt
  rows bSelH 0 (by decide) 15 0 (by decide)
  rows bSelO 15 (by decide) 15 0 (by decide)

/-! ## They are the printed programs -/

/-- What follows a two-way choice may be written inside both branches. -/
theorem ite_then {E : Type → Type} {α β : Type} (c : Prop) [Decidable c] (a b : Prog E α) (k : α → Prog E β) :
    (if c then a else b) >>= k = if c then a >>= k else b >>= k := by split <;> rfl

/-- The same when the branches use the condition. -/
theorem dite_then {E : Type → Type} {α β : Type} (c : Prop) [Decidable c] (a : c → Prog E α) (b : ¬c → Prog E α) (k : α → Prog E β) :
    (if h : c then a h else b h) >>= k = if h : c then a h >>= k else b h >>= k := by split <;> rfl

/-- The printed loop, on the kernel's own buffers. -/
theorem while_eq (t nh no go : BitVec 32) : defs₀ (F := F) .tc 1 (whileArgs t nh no go) = nmsLoop t nh no go := by
  show cc0_while1 _ _ _ _ _ _ _ _ _ _ _ _ _ _ _ _ _ _ _ _ _ _ _ t nh no go = _
  unfold cc0_while1 k0_part78 k0_part79 k0_part80 nmsLoop nmsStep selStep keepStep
  simp only [Prog.bind_assoc, Prog.pure_eq_ret, Prog.bind_ret, ite_then, dite_then]
  sl_kernel_rfl

/-- A program of five parts followed by more is the five parts, the last one followed by more. -/
theorem five_then {E : Type → Type} {α β γ δ ε ζ : Type} (c : Prog E α) (w : α → Prog E β) (f : α → β → Prog E γ) (g : α → β → γ → Prog E δ)
    (tl : Prog E ε) (R : ε → Prog E ζ) :
    (c >>= fun a => w a >>= fun v => f a v >>= fun x => g a v x >>= fun _ => tl) >>= R
      = c >>= fun a => w a >>= fun v => f a v >>= fun x => g a v x >>= fun _ => tl >>= R := by
  simp only [Prog.bind_assoc]

/-- One trip of a fill loop with its end written in both branches. -/
theorem fillStep_eq (b : Memref sig .tc .vmem S8x128 .i32) (nv o cnt : BitVec 32) : fillStep (F := F) b nv o cnt = (do
    let row : Vec F S1x128 .i32 ← ldSel b
    if Scalar.cmpi .ne (Scalar.extui (fillTake (F := F) nv o cnt row) : BitVec 32) 0#32 = 1#1 then do
      putSel b (Scalar.addi nv cnt) o
      pure (Scalar.addi cnt (Scalar.select (fillTake (F := F) nv o cnt row) 1#32 0#32))
    else pure (Scalar.addi cnt (Scalar.select (fillTake (F := F) nv o cnt row) 1#32 0#32))) := by
  unfold fillStep
  simp only [ite_then, Prog.pure_eq_ret, Prog.bind_ret]

/-- The printed first part: clearing, the suppression loop, the two fill loops, and the start of the first output row. -/
theorem part1_eq : k0_part1 (F := F) bX0 (Memref.isWhole_whole _) bY0 (Memref.isWhole_whole _) bX1 (Memref.isWhole_whole _) bY1 (Memref.isWhole_whole _) bAr (Memref.isWhole_whole _)
      bSc (Memref.isWhole_whole _) bHu (Memref.isWhole_whole _) bPe (Memref.isWhole_whole _) bOX0 (Memref.isWhole_whole _) bOY0 (Memref.isWhole_whole _) bOX1 (Memref.isWhole_whole _)
      bOY1 (Memref.isWhole_whole _) bOS (Memref.isWhole_whole _) bOut (Memref.isWhole_whole _) bKeep (Memref.isWhole_whole _) bSelH (Memref.isWhole_whole _) bSelO (Memref.isWhole_whole _)
    = clear >>= fun _ => Prog.lift (.call (1 : (Λ₀ F).Label) (whileArgs 0#32 0#32 0#32 1#32)) >>= fun v =>
        Scf.Loop.for k0_t3_loop k0_t3_ok 0#32 (fun k cnt => fillStep bSelH v.2.1 (Scf.iv 0#32 1#32 k) cnt) >>= fun _ =>
        Scf.Loop.for k0_t4_loop k0_t4_ok 0#32 (fun k cnt => fillStep bSelO v.2.2.1 (Scf.iv 0#32 1#32 k) cnt) >>= fun _ => (do
          let sel : Vec F S1x128 .i32 ← ldSel bSelH
          have hw : k0_chk3 (extS sel (BitVec.ofNat 32 0)) := (← Prog.lift (TpuEff.assume (k0_chk3 (extS sel (BitVec.ofNat 32 0))) (k0_chk3.dec (extS sel (BitVec.ofNat 32 0))))).down
          pure ⟨lane, extS sel (BitVec.ofNat 32 0), hw, 7#32⟩) := by
  simp only [fillStep_eq]
  sl_kernel_rfl

/-- The printed body, on the kernel's own buffers. -/
theorem body_eq : cc0__body (F := F) bX0 (Memref.isWhole_whole _) bY0 (Memref.isWhole_whole _) bX1 (Memref.isWhole_whole _) bY1 (Memref.isWhole_whole _) bAr (Memref.isWhole_whole _)
      bSc (Memref.isWhole_whole _) bHu (Memref.isWhole_whole _) bPe (Memref.isWhole_whole _) bOX0 (Memref.isWhole_whole _) bOY0 (Memref.isWhole_whole _) bOX1 (Memref.isWhole_whole _)
      bOY1 (Memref.isWhole_whole _) bOS (Memref.isWhole_whole _) bOut (Memref.isWhole_whole _) bKeep (Memref.isWhole_whole _) bSelH (Memref.isWhole_whole _) bSelO (Memref.isWhole_whole _)
    = kernelBody := by
  unfold cc0__body k0_part75
  refine (Prog.bind_assoc _ _ _).trans ?_
  rw [part1_eq]
  refine (five_then _ _ _ _ _ _).trans ?_
  sl_kernel_rfl

end Cert.Proof.PI

end
-- ==== Proof.PI.Model.lean ====
/-
  What the kernel's programs compute, as functions: the buffers are functions of their indices, a loop is a recursion on
  the number of its trips. Nothing here speaks of memory. All of it holds for every choice of float values.
-/
module

public import proofs.«01_k».proof.Proof.PI.Program
public import Idealize.ShloMosaic.Lib.Pointwise.Index

@[expose] public section

noncomputable section

namespace Cert.Proof.PI

open Cert.KernelIdeal Cert.KernelIdeal.Gen
open Idealize.ShloMosaic Idealize.ShloMosaic.TcCoe

variable {F : FTy → Type} [FloatOps F]

/-- Row `n` of a table of rows of 128. -/
def row {R : ℕ} {α : Type} (X : (⟨2, ![R, 128]⟩ : Shape).Idx → α) (n : Fin R) : S1x128.Idx → α := fun i => X (ix2 n (i 1))

/-- The table with row `n` replaced. -/
def setRow {R : ℕ} {α : Type} (X : (⟨2, ![R, 128]⟩ : Shape).Idx → α) (n : Fin R) (v : S1x128.Idx → α) : (⟨2, ![R, 128]⟩ : Shape).Idx → α :=
  fun i => if (i 0).val = n.val then v (ix2 0 (i 1)) else X i

variable (F) in
/-- The kernel's operands: the sorted boxes' corners, areas and scores, the flag of a human, the original index of a sorted
    position, and the boxes and scores in their original order. -/
structure Ins where
  x0 : S40x128.Idx → Elt F .f32
  y0 : S40x128.Idx → Elt F .f32
  x1 : S40x128.Idx → Elt F .f32
  y1 : S40x128.Idx → Elt F .f32
  ar : S40x128.Idx → Elt F .f32
  sc : S40x128.Idx → Elt F .f32
  hu : S40x128.Idx → Elt F .i32
  pe : S40x128.Idx → Elt F .i32
  ox0 : S40x128.Idx → Elt F .f32
  oy0 : S40x128.Idx → Elt F .f32
  ox1 : S40x128.Idx → Elt F .f32
  oy1 : S40x128.Idx → Elt F .f32
  os : S40x128.Idx → Elt F .f32

variable (F) in
/-- The scratch buffers: the marks of the kept positions and the two selection lists. -/
structure Scr where
  keep : S40x128.Idx → Elt F .f32
  selH : S8x128.Idx → Elt F .i32
  selO : S8x128.Idx → Elt F .i32

/-- The row of position `t` in a table of 40 rows. -/
def rowIx (t : BitVec 32) : Fin 40 := Fin.ofNat 40 (Scalar.shrui t 7#32).toNat

/-- The number of suppressors of position `t` in the first `k` rows. -/
def suppTo (X : Ins F) (keep : S40x128.Idx → Elt F .f32) (t : BitVec 32) : ℕ → F .f32
  | 0 => Scalar.ofBits .f32 0x00000000#32
  | k + 1 => Scalar.addf (suppTo X keep t k) (hits t (Scf.iv 0#32 1#32 k)
      (extF (row X.x0 (rowIx t)) (Scalar.andi t 127#32)) (extF (row X.y0 (rowIx t)) (Scalar.andi t 127#32))
      (extF (row X.x1 (rowIx t)) (Scalar.andi t 127#32)) (extF (row X.y1 (rowIx t)) (Scalar.andi t 127#32))
      (extF (row X.ar (rowIx t)) (Scalar.andi t 127#32))
      (row X.x0 (Fin.ofNat 40 k)) (row X.y0 (Fin.ofNat 40 k)) (row X.x1 (Fin.ofNat 40 k)) (row X.y1 (Fin.ofNat 40 k))
      (row X.ar (Fin.ofNat 40 k)) (row keep (Fin.ofNat 40 k)))

/-- Position `t`'s score reaches the threshold. -/
def isAct (X : Ins F) (t : BitVec 32) : BitVec 1 :=
  Scalar.cmpf .oge (extF (row X.sc (rowIx t)) (Scalar.andi t 127#32)) (Scalar.ofBits .f32 0x3E4CCCCD#32 : F .f32)

/-- No kept position before `t` suppresses it. -/
def isFree (X : Ins F) (keep : S40x128.Idx → Elt F .f32) (t : BitVec 32) : BitVec 1 :=
  Scalar.cmpf .olt (suppTo X keep t ((rowIx t).val + 1)) (Scalar.ofBits .f32 0x3F000000#32)

/-- Position `t` is a human. -/
def isHum (X : Ins F) (t : BitVec 32) : BitVec 1 :=
  Scalar.cmpf .ogt (Scalar.sitofp .f32 (extI (row X.hu (rowIx t)) (Scalar.andi t 127#32)) : F .f32) (Scalar.ofBits .f32 0x3F000000#32)

/-- The original index of position `t`. -/
def origIx (X : Ins F) (t : BitVec 32) : BitVec 32 := extI (row X.pe (rowIx t)) (Scalar.andi t 127#32)

/-- A human is taken at `t`; another object is taken at `t`. -/
def takeH (kept hum : BitVec 1) (nh : BitVec 32) : BitVec 1 := Scalar.andi (Scalar.andi kept hum) (Scalar.cmpi .slt nh 15#32)
def takeO (kept hum : BitVec 1) (no : BitVec 32) : BitVec 1 :=
  Scalar.andi (Scalar.andi kept (Scalar.xori hum 1#1)) (Scalar.cmpi .slt no 15#32)

/-- A condition as the program branches on it. -/
abbrev yes (b : BitVec 1) : Prop := Scalar.cmpi .ne (Scalar.extui b : BitVec 32) 0#32 = 1#1

/-- A selection list after one candidate. -/
def putAt (sel : S8x128.Idx → BitVec 32) (c x : BitVec 32) : S8x128.Idx → BitVec 32 := setRow sel 0 (putI (row sel 0) c x)

/-- The marks after position `t`. -/
def keepAfter (X : Ins F) (keep : S40x128.Idx → Elt F .f32) (t : BitVec 32) : S40x128.Idx → Elt F .f32 :=
  if k0_cond1 (isAct X t) (isFree X keep t) = 1#1 then
    setRow keep (rowIx t) (putF (row keep (rowIx t)) (Scalar.andi t 127#32) (Scalar.ofBits .f32 0x3F800000#32))
  else keep

/-- The four words the loop carries. -/
abbrev Words := BitVec 32 × BitVec 32 × BitVec 32 × BitVec 32

/-- The carried words after a step. -/
def wordsAfter (t nh no : BitVec 32) (act th tk : BitVec 1) : Words :=
  (Scalar.addi t 1#32, Scalar.addi nh (Scalar.select th 1#32 0#32), Scalar.addi no (Scalar.select tk 1#32 0#32),
    Scalar.select (Scalar.andi (Scalar.andi act (Scalar.cmpi .slt (Scalar.addi t 1#32) 5120#32))
      (Scalar.ori (Scalar.cmpi .slt (Scalar.addi nh (Scalar.select th 1#32 0#32)) 15#32)
        (Scalar.cmpi .slt (Scalar.addi no (Scalar.select tk 1#32 0#32)) 15#32))) 1#32 0#32)

/-- One step of the suppression loop. -/
def stepScr (X : Ins F) (s : Scr F) (t nh no : BitVec 32) : Scr F where
  keep := keepAfter X s.keep t
  selH := if yes (takeH (Scalar.andi (isAct X t) (isFree X s.keep t)) (isHum X t) nh) then putAt s.selH nh (origIx X t) else s.selH
  selO := if yes (takeO (Scalar.andi (isAct X t) (isFree X s.keep t)) (isHum X t) no) then putAt s.selO no (origIx X t) else s.selO

def stepWords (X : Ins F) (s : Scr F) (t nh no : BitVec 32) : Words :=
  wordsAfter t nh no (isAct X t) (takeH (Scalar.andi (isAct X t) (isFree X s.keep t)) (isHum X t) nh)
    (takeO (Scalar.andi (isAct X t) (isFree X s.keep t)) (isHum X t) no)

/-- The suppression loop, at most `n` steps of it. -/
def loopTo (X : Ins F) : ℕ → Scr F → Words → Scr F × Words
  | 0, s, w => (s, w)
  | n + 1, s, w => if Scalar.cmpi .eq w.2.2.2 1#32 = 1#1 then loopTo X n (stepScr X s w.1 w.2.1 w.2.2.1) (stepWords X s w.1 w.2.1 w.2.2.1) else (s, w)

variable (F) in
/-- The scratch buffers after they are cleared. -/
def scr0 : Scr F := ⟨fun _ => Scalar.ofBits .f32 0x00000000#32, fun _ => 0#32, fun _ => 0#32⟩

/-- The suppression loop from its start. -/
def loopEnd (X : Ins F) : Scr F × Words := loopTo X 5120 (scr0 F) (0#32, 0#32, 0#32, 1#32)

variable (F) in
/-- A fill loop after `k` trips: the list and the number of places filled. -/
def fillTo (nv : BitVec 32) (sel : S8x128.Idx → BitVec 32) : ℕ → (S8x128.Idx → BitVec 32) × BitVec 32
  | 0 => (sel, 0#32)
  | k + 1 =>
    let p := fillTo nv sel k
    let tk : BitVec 1 := fillTake (F := F) nv (Scf.iv 0#32 1#32 k) p.2 (row p.1 0)
    (if yes tk then putAt p.1 (Scalar.addi nv p.2) (Scf.iv 0#32 1#32 k) else p.1, Scalar.addi p.2 (Scalar.select tk 1#32 0#32))

/-- The two lists when the output rows are written. -/
def listH (X : Ins F) : S8x128.Idx → BitVec 32 := (fillTo F (loopEnd X).2.2.1 (loopEnd X).1.selH 30).1
def listO (X : Ins F) : S8x128.Idx → BitVec 32 := (fillTo F (loopEnd X).2.2.2.1 (loopEnd X).1.selO 30).1

/-- The index at place `l` of a list. -/
def pickAt (sel : S8x128.Idx → BitVec 32) (l : ℕ) : BitVec 32 := extS (row sel 0) (BitVec.ofNat 32 l)

/-- The output row of the original index `oi`. -/
def outOf (X : Ins F) (oi : BitVec 32) : FVec F S1x128 .f32 :=
  outRow oi (row X.os (rowIx oi)) (row X.ox0 (rowIx oi)) (row X.oy0 (rowIx oi)) (row X.ox1 (rowIx oi)) (row X.oy1 (rowIx oi))

/-- The kernel's result. -/
def outAll (X : Ins F) : S30x128.Idx → Elt F .f32 := fun i =>
  if (i 0).val < 15 then outOf X (pickAt (listH X) (i 0).val) (ix2 0 (i 1)) else outOf X (pickAt (listO X) ((i 0).val - 15)) (ix2 0 (i 1))

end Cert.Proof.PI

end
-- ==== Proof.PI.Common.lean ====
/-
  What the proofs about the program `KernelIdeal` share: the resource algebra, and the rules for the kernel's loads and
  stores, stated over what a buffer holds as a function of its index. All for every choice of float values.
-/
module

public import proofs.«01_k».proof.Proof.PI.Program
public import proofs.«01_k».proof.Proof.PI.Model
public import proofs.«01_k».proof.Proof.Gen.KernelIdeal.Launch
public import Idealize.ShloMosaic.Lib.Pipeline.Frame

@[expose] public section

noncomputable section

namespace Cert.Proof.PI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- The variants: naturals, the steps the suppression loop may still take. -/
abbrev 𝒱₀ : Variants := Variants.nat

/-! ## Loads and stores -/

/-- Holding a whole buffer whose contents are `X`. -/
abbrev held {sp : Space} {s : Shape} {e : EltTy} (c : Dev nD) (b : Memref sig .tc sp s e) (X : s.Idx → Elt F e) : sProp 𝕄 :=
  owns (c : Thread nD τ) b fullShare X

section Rules
variable {α : Type} (c : Dev nD) (bd : Option 𝒱₀.V) {s : Shape} {e : EltTy}

/-- A load continues at the entries of the buffer's contents that the rectangle names. -/
theorem wp_ld {cs : CoreSpace} (b : Memref sig .tc cs s e) (X : s.Idx → Elt F e) {r : LoadRect s} {hl : b.view.LoadsAt r}
    {k : (r.shape.Idx → Elt F e) → TProg F α} {Q : α → sProp 𝕄} :
    held c b X ⊢ iprop((held c b X -∗ wp frame (wpE (defs₀ (F := F)) 𝒱₀ (c : Thread nD τ) bd) Set.univ (k fun x => X (r.idx x)) Q)
      -∗ wp frame (wpE (defs₀ (F := F)) 𝒱₀ (c : Thread nD τ) bd) Set.univ (Prog.lift (.load b r hl) >>= k) Q) := by
  unfold held owns
  iintro ⟨%f, %hf, H⟩ Hk
  simp only [Prog.bind_lift]
  iapply (wp_load 𝒱₀ (c : Thread nD τ) bd Set.univ (m := b) (r := r) (b.view.setOn_subset_set r.set)) $$ H
  iintro H
  subst hf
  iapply Hk
  iexists f
  isplitr; · (ipureintro; rfl)
  iexact H

/-- A store of a whole rectangle continues with the contents replaced there. -/
theorem wp_st {cs : CoreSpace} (b : Memref sig .tc cs s e) (X X' : s.Idx → Elt F e) {r : Rect s} {w : r.shape.Idx → Elt F e}
    {hx : (b.access r).Stores Finset.univ} {hm : (Finset.univ : Finset r.shape.Idx) = Finset.univ ∨ ∀ a, r.stride a = 1} {k : PUnit → TProg F α} {Q : α → sProp 𝕄}
    (hin : ∀ x, X' (r.idx x) = w x) (hout : ∀ i, i ∉ r.set → X' i = X i) :
    held c b X ⊢ iprop((held c b X' -∗ wp frame (wpE (defs₀ (F := F)) 𝒱₀ (c : Thread nD τ) bd) Set.univ (k ⟨⟩) Q)
      -∗ wp frame (wpE (defs₀ (F := F)) 𝒱₀ (c : Thread nD τ) bd) Set.univ (Prog.lift (.store b r w Finset.univ hx hm) >>= k) Q) := by
  unfold held owns
  iintro ⟨%f, %hf, H⟩ Hk
  simp only [Prog.bind_lift]
  iapply (wp_store 𝒱₀ (c : Thread nD τ) bd Set.univ (m := b) (r := r) (Mk := Finset.univ) (by
    rw [View.setOn_univ]; exact View.set_slice_subset b.view r)) $$ H
  iintro H
  subst hf
  iapply Hk
  iexists _
  isplitr
  swap; · iexact H
  ipureintro
  funext i
  by_cases hi : i ∈ r.set
  · obtain ⟨x, rfl⟩ := r.toLoadRect.exists_idx_of_mem hi
    exact (View.read_slice_write_emb r f w (Finset.mem_univ x)).trans (hin x).symm
  · refine (View.read_slice_write_of_not_mem r f w Finset.univ fun hm => hi ?_).trans (hout i hi).symm
    obtain ⟨x, _, rfl⟩ := Finset.mem_map.1 hm
    exact LoadRect.idx_mem r.toLoadRect x

/-- Loading row `n` of a table. -/
theorem wp_row {R : ℕ} {cs : CoreSpace} (b : Memref sig .tc cs ⟨2, ![R, 128]⟩ e) (X : (⟨2, ![R, 128]⟩ : Shape).Idx → Elt F e) {off : Fin 2 → ℕ}
    (n : Fin R) (ho : off = ![n.val, 0]) {h : ∀ a, off a + S1x128.size a ≤ (⟨2, ![R, 128]⟩ : Shape).size a}
    {hl : b.view.LoadsAt (Rect.unit (s := ⟨2, ![R, 128]⟩) off S1x128.size h).toLoadRect} {k : Vec F S1x128 e → TProg F α} {Q : α → sProp 𝕄} :
    held c b X ⊢ iprop((held c b X -∗ wp frame (wpE (defs₀ (F := F)) 𝒱₀ (c : Thread nD τ) bd) Set.univ (k (row X n)) Q)
      -∗ wp frame (wpE (defs₀ (F := F)) 𝒱₀ (c : Thread nD τ) bd) Set.univ
        (Prog.lift (.load b (Rect.unit (s := ⟨2, ![R, 128]⟩) off S1x128.size h).toLoadRect hl) >>= k) Q) := by
  have e : (fun x => X ((Rect.unit (s := ⟨2, ![R, 128]⟩) off S1x128.size h).toLoadRect.idx x)) = row X n := by
    subst ho; funext x; unfold row
    refine congrArg X (funext fun a => Fin.ext ?_)
    match a with
    | ⟨0, _⟩ => show n.val + 1 * (x 0).val = n.val; have := (x 0).isLt; change (x 0).val < 1 at this; omega
    | ⟨1, _⟩ => show 0 + 1 * (x 1).val = (x 1).val; omega
  have := wp_ld c bd (Q := Q) b X (r := (Rect.unit (s := ⟨2, ![R, 128]⟩) off S1x128.size h).toLoadRect) (hl := hl) (k := k)
  rwa [e] at this

/-- Storing row `n` of a table. -/
theorem wp_setRow {R : ℕ} {cs : CoreSpace} (b : Memref sig .tc cs ⟨2, ![R, 128]⟩ e) (X : (⟨2, ![R, 128]⟩ : Shape).Idx → Elt F e) {off : Fin 2 → ℕ}
    (n : Fin R) (ho : off = ![n.val, 0]) {h : ∀ a, off a + S1x128.size a ≤ (⟨2, ![R, 128]⟩ : Shape).size a} {w : Vec F S1x128 e}
    {hx : (b.access (Rect.unit (s := ⟨2, ![R, 128]⟩) off S1x128.size h)).Stores Finset.univ}
    {hm : (Finset.univ : Finset (Rect.unit (s := ⟨2, ![R, 128]⟩) off S1x128.size h).shape.Idx) = Finset.univ ∨ ∀ a, (Rect.unit (s := ⟨2, ![R, 128]⟩) off S1x128.size h).stride a = 1}
    {k : PUnit → TProg F α} {Q : α → sProp 𝕄} :
    held c b X ⊢ iprop((held c b (setRow X n w) -∗ wp frame (wpE (defs₀ (F := F)) 𝒱₀ (c : Thread nD τ) bd) Set.univ (k ⟨⟩) Q)
      -∗ wp frame (wpE (defs₀ (F := F)) 𝒱₀ (c : Thread nD τ) bd) Set.univ
        (Prog.lift (.store b (Rect.unit (s := ⟨2, ![R, 128]⟩) off S1x128.size h) w Finset.univ hx hm) >>= k) Q) := by
  subst ho
  refine wp_st c bd b X _ (fun x => ?_) (fun i hi => ?_)
  · have h0 : (x 0).val < 1 := (x 0).isLt
    have e : ((Rect.unit (s := ⟨2, ![R, 128]⟩) ![n.val, 0] S1x128.size h).toLoadRect.idx x 0).val = n.val := by show n.val + 1 * (x 0).val = n.val; omega
    unfold setRow
    rw [if_pos e]
    refine congrArg w (funext fun a => Fin.ext ?_)
    match a with
    | ⟨0, _⟩ => show 0 = (x 0).val; omega
    | ⟨1, _⟩ => show 0 + 1 * (x 1).val = (x 1).val; omega
  · unfold setRow
    rw [if_neg]
    intro e
    refine hi (Rect.mem_set_unit.2 fun a => ?_)
    match a with
    | ⟨0, _⟩ => exact ⟨le_of_eq e.symm, by show (i 0).val < n.val + 1; omega⟩
    | ⟨1, _⟩ => exact ⟨Nat.zero_le _, by show (i 1).val < 0 + 128; have := (i 1).isLt; change (i 1).val < 128 at this; omega⟩

end Rules

end Cert.Proof.PI

end
-- ==== Proof.PI.Words.lean ====
/-
  The program's index words: for a position below 5120 its row is below 40, the printed side conditions hold, and the
  two printed halves of the row loop run once per row up to the position's own, and not at all.
-/
module

public import proofs.«01_k».proof.Proof.PI.Model

@[expose] public section

noncomputable section

namespace Cert.Proof.PI

open Cert.KernelIdeal Cert.KernelIdeal.Gen
open Idealize.ShloMosaic Idealize.ShloMosaic.TcCoe

/-- The row of a position below 5120, as a word. -/
theorem shr7 {t : BitVec 32} (h : t.toNat < 5120) : Scalar.shrui t 7#32 = BitVec.ofNat 32 (rowIx t).val ∧ (rowIx t).val = t.toNat / 128 := by
  have e : (Scalar.shrui t 7#32).toNat = t.toNat / 128 := by
    show (IntOp.shrui .scalar t 7#32).toNat = _
    unfold IntOp.shrui
    rw [if_pos (by decide), BitVec.ushiftRight_eq', BitVec.toNat_ushiftRight, Nat.shiftRight_eq_div_pow]
    rfl
  have e2 : (rowIx t).val = t.toNat / 128 := by
    show (Scalar.shrui t 7#32).toNat % 40 = _
    rw [e]; omega
  refine ⟨BitVec.eq_of_toNat_eq ?_, e2⟩
  rw [e, e2, BitVec.toNat_ofNat]; omega

/-- An offset pair that starts at a row below 40 is in bounds. -/
theorem inb_row {n : ℕ} (h : n < 40) : ∀ a, (![n, 0] : Fin 2 → ℕ) a + S1x128.size a ≤ S40x128.size a := fun a => by
  match a with
  | ⟨0, _⟩ => show n + 1 ≤ 40; omega
  | ⟨1, _⟩ => show 0 + 128 ≤ 128; omega

theorem off1_eq {t : BitVec 32} (h : t.toNat < 5120) : k0_off1 t = ![(rowIx t).val, 0] := by
  show ![(Scalar.indexCast (Scalar.shrui t 7#32)).toNat, 0] = _
  rw [(shr7 h).1]
  have := (rowIx t).isLt
  show ![(BitVec.ofNat 32 (rowIx t).val).toNat, 0] = _
  rw [BitVec.toNat_ofNat, Nat.mod_eq_of_lt (by omega)]

theorem off4_eq {t : BitVec 32} (h : t.toNat < 5120) : k0_off4 t = ![(rowIx t).val, 0] := off1_eq h
theorem off5_eq {t : BitVec 32} (h : t.toNat < 5120) : k0_off5 t = ![(rowIx t).val, 0] := off1_eq h
theorem off6_eq {t : BitVec 32} (h : t.toNat < 5120) : k0_off6 t = ![(rowIx t).val, 0] := off1_eq h

/-- The two printed halves of the row loop, from the row's word. -/
def halfOne (r : BitVec 32) : Scf.Loop 32 := ⟨0#32, Scalar.addi 0#32 (Scalar.muli (Scalar.divsi (Scalar.subi (Scalar.addi r 1#32) 0#32) 1#32) 1#32), 1#32⟩
def halfTwo (r : BitVec 32) : Scf.Loop 32 :=
  ⟨Scalar.addi 0#32 (Scalar.muli (Scalar.divsi (Scalar.subi (Scalar.addi r 1#32) 0#32) 1#32) 1#32), Scalar.addi 0#32 (Scalar.subi (Scalar.addi r 1#32) 0#32), 1#32⟩

theorem t1_half (t : BitVec 32) : k0_t1_loop t = halfOne (Scalar.shrui t 7#32) := rfl
theorem t2_half (t : BitVec 32) : k0_t2_loop t = halfTwo (Scalar.shrui t 7#32) := rfl

theorem halves : ∀ n : Fin 40, ((halfOne (BitVec.ofNat 32 n.val)).OK ∧ (halfOne (BitVec.ofNat 32 n.val)).trips = n.val + 1)
    ∧ (halfTwo (BitVec.ofNat 32 n.val)).OK ∧ (halfTwo (BitVec.ofNat 32 n.val)).trips = 0 := by decide +kernel

theorem t1_trips {t : BitVec 32} (h : t.toNat < 5120) : (k0_t1_loop t).trips = (rowIx t).val + 1 := by
  rw [t1_half, (shr7 h).1]; exact (halves (rowIx t)).1.2

theorem t2_trips {t : BitVec 32} (h : t.toNat < 5120) : (k0_t2_loop t).trips = 0 := by
  rw [t2_half, (shr7 h).1]; exact (halves (rowIx t)).2.2

theorem t1_le {t : BitVec 32} (h : t.toNat < 5120) : (k0_t1_loop t).trips ≤ 40 :=
  (le_of_eq (t1_trips h)).trans (Nat.succ_le_of_lt (rowIx t).isLt)

/-- The loop variable of trip `k`. -/
theorem iv_toNat {k : ℕ} (h : k < 5120) : (Scf.iv 0#32 1#32 k).toNat = k := by
  show (0#32 + BitVec.ofNat 32 k * 1#32).toNat = k
  rw [BitVec.zero_add, BitVec.mul_one, BitVec.toNat_ofNat]; omega

theorem off2_eq (t : BitVec 32) (k : Fin (k0_t1_loop t).trips) (h : k.val < 40) : k0_off2 t k = ![(Fin.ofNat 40 k.val).val, 0] := by
  show ![(Scf.iv 0#32 1#32 k.val).toNat, 0] = _
  rw [iv_toNat (by omega)]
  show _ = ![k.val % 40, 0]
  rw [Nat.mod_eq_of_lt h]

theorem chk1 {t : BitVec 32} (h : t.toNat < 5120) : k0_chk1 t := by
  have h1 : ∀ a, (k0_off1 t) a + S1x128.size a ≤ S40x128.size a := by rw [off1_eq h]; exact inb_row (rowIx t).isLt
  refine ⟨h1, ?_, fun k => ?_, ?_, fun k => ?_, h1⟩
  · rw [t1_half, (shr7 h).1]; exact (halves (rowIx t)).1.1
  · rw [off2_eq t k (lt_of_lt_of_le k.isLt (t1_le h))]; exact inb_row (Fin.isLt _)
  · rw [t2_half, (shr7 h).1]; exact (halves (rowIx t)).2.1
  · exact absurd (lt_of_lt_of_eq k.isLt (t2_trips h)) (Nat.not_lt_zero _)

theorem chk2 {t : BitVec 32} (h : t.toNat < 5120) (act free : BitVec 1) : k0_chk2 t act free := fun _ => by
  rw [off4_eq h]; exact inb_row (rowIx t).isLt

theorem chk3 {t : BitVec 32} (h : t.toNat < 5120) : k0_chk3 t := by
  show ∀ a, (k0_off6 t) a + S1x128.size a ≤ S40x128.size a
  rw [off6_eq h]; exact inb_row (rowIx t).isLt

theorem t3_trips : k0_t3_loop.trips = 30 := by decide +kernel
theorem t4_trips : k0_t4_loop.trips = 30 := by decide +kernel

/-- While the loop goes on, the position's word counts on. -/
theorem next_lt {t : BitVec 32} (h : t.toNat < 5120) : (Scalar.addi t 1#32).toNat = t.toNat + 1 := by
  show (t + 1#32).toNat = _
  rw [BitVec.toNat_add]; show (t.toNat + 1) % _ = _; omega

/-- The loop goes on only at a position below 5120. -/
theorem go_lt {t : BitVec 32} {a b : BitVec 1} (ht : t.toNat ≤ 5120)
    (h : Scalar.cmpi .eq (Scalar.select (Scalar.andi (Scalar.andi a (Scalar.cmpi .slt t 5120#32)) b) 1#32 0#32) 1#32 = 1#1) : t.toNat < 5120 := by
  by_contra hn
  have e : t = 5120#32 := BitVec.eq_of_toNat_eq (by show t.toNat = 5120; omega)
  subst e
  have : ∀ a b : BitVec 1, ¬Scalar.cmpi .eq (Scalar.select (Scalar.andi (Scalar.andi a (Scalar.cmpi .slt (5120#32) 5120#32)) b) (1#32) 0#32) 1#32 = 1#1 := by decide
  exact this a b h

end Cert.Proof.PI

end
-- ==== Proof.PI.Steps.lean ====
/-
  What each piece of the kernel's body does to the buffers: a row read, one trip of the overlap count, one step of the
  suppression loop, the suppression loop itself, the fill loops and the output rows. Every rule is stated for a piece
  followed by an arbitrary rest of the program.
-/
module

public import proofs.«01_k».proof.Proof.PI.Common
public import proofs.«01_k».proof.Proof.PI.Words

@[expose] public section

noncomputable section

namespace Cert.Proof.PI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-! ## The operands held together -/

/-- The thirteen operand buffers, one by one. -/
def insAt (c : Dev nD) (X : Ins F) : Fin 13 → sProp 𝕄
  | 0 => held c bX0 X.x0
  | 1 => held c bY0 X.y0
  | 2 => held c bX1 X.x1
  | 3 => held c bY1 X.y1
  | 4 => held c bAr X.ar
  | 5 => held c bSc X.sc
  | 6 => held c bHu X.hu
  | 7 => held c bPe X.pe
  | 8 => held c bOX0 X.ox0
  | 9 => held c bOY0 X.oy0
  | 10 => held c bOX1 X.ox1
  | 11 => held c bOY1 X.oy1
  | 12 => held c bOS X.os

/-- All of them. -/
def ins (c : Dev nD) (X : Ins F) : sProp 𝕄 := bigSep Finset.univ (insAt c X)

/-- The scratch buffers. -/
def scr (c : Dev nD) (s : Scr F) : sProp 𝕄 := iprop(held c bKeep s.keep ∗ held c bSelH s.selH ∗ held c bSelO s.selO)

/-- One operand taken out, to be given back. -/
theorem ins_take (c : Dev nD) (X : Ins F) (w : Fin 13) : ins c X ⊢ iprop(insAt c X w ∗ (insAt c X w -∗ ins c X)) := by
  unfold ins
  have e : bigSep Finset.univ (insAt c X) = iprop(insAt c X w ∗ bigSep (Finset.univ.erase w) (insAt c X)) := BI.bigSep_erase (Finset.mem_univ w)
  rw [e]
  iintro ⟨H, R⟩
  isplitl [H]; · iexact H
  iintro H
  isplitl [H]; · iexact H
  iexact R

variable {α : Type} (c : Dev nD) (bd : Option 𝒱₀.V) (X : Ins F)

/-- Reading a row of an operand. -/
theorem wp_ins (w : Fin 13) {e : EltTy} (b : Memref sig .tc .vmem S40x128 e) (Y : S40x128.Idx → Elt F e) (hw : insAt c X w = held c b Y)
    {off : Fin 2 → ℕ} (n : Fin 40) (ho : off = ![n.val, 0]) {h : ∀ a, off a + S1x128.size a ≤ S40x128.size a}
    {k : Vec F S1x128 e → TProg F α} {Q : α → sProp 𝕄} :
    ins c X ⊢ iprop((ins c X -∗ wp frame (wpE (defs₀ (F := F)) 𝒱₀ (c : Thread nD τ) bd) Set.univ (k (row Y n)) Q)
      -∗ wp frame (wpE (defs₀ (F := F)) 𝒱₀ (c : Thread nD τ) bd) Set.univ (ldRow b off h >>= k) Q) := by
  refine (ins_take c X w).trans ?_
  rw [hw]
  iintro ⟨H, R⟩ Hk
  unfold ldRow
  iapply (wp_row c bd b Y n ho) $$ H
  iintro H
  iapply Hk
  iapply R
  iexact H

/-- Reading a row of the marks. -/
theorem wp_keep (Y : S40x128.Idx → Elt F .f32) {off : Fin 2 → ℕ} (n : Fin 40) (ho : off = ![n.val, 0])
    {h : ∀ a, off a + S1x128.size a ≤ S40x128.size a} {k : Vec F S1x128 .f32 → TProg F α} {Q : α → sProp 𝕄} :
    held c bKeep Y ⊢ iprop((held c bKeep Y -∗ wp frame (wpE (defs₀ (F := F)) 𝒱₀ (c : Thread nD τ) bd) Set.univ (k (row Y n)) Q)
      -∗ wp frame (wpE (defs₀ (F := F)) 𝒱₀ (c : Thread nD τ) bd) Set.univ (ldRow bKeep off h >>= k) Q) := by
  unfold ldRow
  exact wp_row c bd bKeep Y n ho

/-- Reading the first row of a selection list. -/
theorem wp_sel (b : Memref sig .tc .vmem S8x128 .i32) (Y : S8x128.Idx → BitVec 32) {k : Vec F S1x128 .i32 → TProg F α} {Q : α → sProp 𝕄} :
    held c b Y ⊢ iprop((held c b Y -∗ wp frame (wpE (defs₀ (F := F)) 𝒱₀ (c : Thread nD τ) bd) Set.univ (k (row Y 0)) Q)
      -∗ wp frame (wpE (defs₀ (F := F)) 𝒱₀ (c : Thread nD τ) bd) Set.univ (ldSel b >>= k) Q) := by
  unfold ldSel
  exact wp_row c bd (e := .i32) b Y 0 rfl

/-- Writing one place of a selection list. -/
theorem wp_putSel (b : Memref sig .tc .vmem S8x128 .i32) (Y : S8x128.Idx → BitVec 32) (p x : BitVec 32) {k : PUnit → TProg F α} {Q : α → sProp 𝕄} :
    held c b Y ⊢ iprop((held c b (putAt Y p x) -∗ wp frame (wpE (defs₀ (F := F)) 𝒱₀ (c : Thread nD τ) bd) Set.univ (k ⟨⟩) Q)
      -∗ wp frame (wpE (defs₀ (F := F)) 𝒱₀ (c : Thread nD τ) bd) Set.univ (putSel b p x >>= k) Q) := by
  unfold putSel
  simp only [Prog.bind_assoc, Prog.pure_eq_ret, Prog.bind_ret]
  iintro H Hk
  iapply (wp_sel c bd b Y) $$ H
  iintro H
  iapply (wp_sel c bd b Y) $$ H
  iintro H
  iapply (wp_setRow c bd (e := .i32) b Y 0 rfl) $$ H
  iintro H
  iapply Hk
  iexact H

/-! ## The overlap count -/

/-- One trip: row `n` of the sorted positions. -/
theorem wp_hits (keep : S40x128.Idx → Elt F .f32) (t kk : BitVec 32) {off : Fin 2 → ℕ} (n : Fin 40) (ho : off = ![n.val, 0])
    {h : ∀ a, off a + S1x128.size a ≤ S40x128.size a} (x0 y0 x1 y1 ar acc : F .f32) {k : F .f32 → TProg F α} {Q : α → sProp 𝕄} :
    iprop(ins c X ∗ held c bKeep keep) ⊢ iprop((iprop(ins c X ∗ held c bKeep keep) -∗ wp frame (wpE (defs₀ (F := F)) 𝒱₀ (c : Thread nD τ) bd) Set.univ
          (k (Scalar.addf acc (hits t kk x0 y0 x1 y1 ar (row X.x0 n) (row X.y0 n) (row X.x1 n) (row X.y1 n) (row X.ar n) (row keep n)))) Q)
      -∗ wp frame (wpE (defs₀ (F := F)) 𝒱₀ (c : Thread nD τ) bd) Set.univ (hitsStep t kk off h x0 y0 x1 y1 ar acc >>= k) Q) := by
  unfold hitsStep
  simp only [Prog.bind_assoc, Prog.pure_eq_ret, Prog.bind_ret]
  iintro ⟨H, K⟩ Hk
  iapply (wp_ins c bd X 0 bX0 X.x0 rfl n ho) $$ H; iintro H
  iapply (wp_ins c bd X 1 bY0 X.y0 rfl n ho) $$ H; iintro H
  iapply (wp_ins c bd X 2 bX1 X.x1 rfl n ho) $$ H; iintro H
  iapply (wp_ins c bd X 3 bY1 X.y1 rfl n ho) $$ H; iintro H
  iapply (wp_ins c bd X 4 bAr X.ar rfl n ho) $$ H; iintro H
  iapply (wp_keep c bd keep n ho) $$ K; iintro K
  iapply Hk
  isplitl [H]; · iexact H
  iexact K

/-- The loop over the rows up to the position's own. -/
theorem wp_half1 (keep : S40x128.Idx → Elt F .f32) {t : BitVec 32} (ht : t.toNat < 5120) (hok : (k0_t1_loop t).OK)
    (h : ∀ (i : Fin (k0_t1_loop t).trips) (a : Fin 2), k0_off2 t i a + S1x128.size a ≤ S40x128.size a) {k : F .f32 → TProg F α} {Q : α → sProp 𝕄} :
    iprop(ins c X ∗ held c bKeep keep) ⊢ iprop((iprop(ins c X ∗ held c bKeep keep) -∗ wp frame (wpE (defs₀ (F := F)) 𝒱₀ (c : Thread nD τ) bd) Set.univ
          (k (suppTo X keep t ((rowIx t).val + 1))) Q)
      -∗ wp frame (wpE (defs₀ (F := F)) 𝒱₀ (c : Thread nD τ) bd) Set.univ (Scf.Loop.for (k0_t1_loop t) hok (Scalar.ofBits .f32 0x00000000#32) (fun i acc =>
          hitsStep t (Scf.iv 0#32 1#32 i) (k0_off2 t i) (h i) (extF (row X.x0 (rowIx t)) (Scalar.andi t 127#32)) (extF (row X.y0 (rowIx t)) (Scalar.andi t 127#32))
            (extF (row X.x1 (rowIx t)) (Scalar.andi t 127#32)) (extF (row X.y1 (rowIx t)) (Scalar.andi t 127#32)) (extF (row X.ar (rowIx t)) (Scalar.andi t 127#32)) acc) >>= k) Q) := by
  rw [← t1_trips ht]
  iintro H Hk
  iapply (Scf.wp_for_bind frame (wpE (defs₀ (F := F)) 𝒱₀ (c : Thread nD τ) bd) Set.univ _ _ _ hok _ _
    (fun n acc => iprop(⌜acc = suppTo X keep t n⌝ ∗ ins c X ∗ held c bKeep keep)) (fun i acc => by
      have hi : i.val < 40 := lt_of_lt_of_le i.isLt (t1_le ht)
      iintro ⟨%ha, H⟩
      subst ha
      rw [← Prog.bind_pure (hitsStep t _ _ _ _ _ _ _ _ _)]
      iapply (wp_hits c bd X keep t _ _ (off2_eq t i hi) _ _ _ _ _ _) $$ H
      iintro H
      rw [Prog.pure_eq_ret, wp_ret]; imodintro
      isplitr; · (ipureintro; rfl)
      iexact H)) $$ [H]
  · isplitr; · (ipureintro; rfl)
    iexact H
  iintro %acc ⟨%ha, H⟩
  subst ha
  iapply Hk
  iexact H

/-- The second half of the printed loop makes no trip. -/
theorem wp_half2 {t : BitVec 32} (ht : t.toNat < 5120) (hok : (k0_t2_loop t).OK) (acc : F .f32) (body : Fin (k0_t2_loop t).trips → F .f32 → TProg F (F .f32))
    {k : F .f32 → TProg F α} {Q : α → sProp 𝕄} :
    wp frame (wpE (defs₀ (F := F)) 𝒱₀ (c : Thread nD τ) bd) Set.univ (k acc) Q
      ⊢ wp frame (wpE (defs₀ (F := F)) 𝒱₀ (c : Thread nD τ) bd) Set.univ (Scf.Loop.for (k0_t2_loop t) hok acc body >>= k) Q := by
  iintro Hk
  iapply (Scf.wp_for_bind frame (wpE (defs₀ (F := F)) 𝒱₀ (c : Thread nD τ) bd) Set.univ _ _ _ hok acc body
    (fun _ a => iprop(⌜a = acc⌝)) (fun i _ => absurd (lt_of_lt_of_eq i.isLt (t2_trips ht)) (Nat.not_lt_zero _)))
  · ipureintro; rfl
  iintro %a %ha
  subst ha
  iexact Hk

/-! ## One step of the suppression loop -/

/-- Marking a position. -/
theorem wp_mark (keep : S40x128.Idx → Elt F .f32) {t : BitVec 32} (ht : t.toNat < 5120) (act free : BitVec 1) (hw : k0_chk2 t act free)
    {k : PUnit → TProg F α} {Q : α → sProp 𝕄} :
    held c bKeep keep ⊢ iprop((held c bKeep (if k0_cond1 act free = 1#1 then
          setRow keep (rowIx t) (putF (row keep (rowIx t)) (Scalar.andi t 127#32) (Scalar.ofBits .f32 0x3F800000#32)) else keep)
        -∗ wp frame (wpE (defs₀ (F := F)) 𝒱₀ (c : Thread nD τ) bd) Set.univ (k ⟨⟩) Q)
      -∗ wp frame (wpE (defs₀ (F := F)) 𝒱₀ (c : Thread nD τ) bd) Set.univ (keepStep t act free hw >>= k) Q) := by
  unfold keepStep
  by_cases h : k0_cond1 act free = 1#1
  · rw [dif_pos h, if_pos h]
    simp only [Prog.bind_assoc, Prog.pure_eq_ret, Prog.bind_ret]
    iintro H Hk
    iapply (wp_keep c bd keep (rowIx t) (off4_eq ht)) $$ H; iintro H
    iapply (wp_keep c bd keep (rowIx t) (off4_eq ht)) $$ H; iintro H
    iapply (wp_setRow c bd bKeep keep (rowIx t) (off4_eq ht)) $$ H; iintro H
    iapply Hk
    iexact H
  · rw [dif_neg h, if_neg h]
    simp only [Prog.pure_eq_ret, Prog.bind_ret]
    iintro H Hk
    iapply Hk
    iexact H

/-- A candidate written, or not. -/
theorem wp_putIf (b : Memref sig .tc .vmem S8x128 .i32) (Y : S8x128.Idx → BitVec 32) (p x : BitVec 32) (q : BitVec 1) {k : PUnit → TProg F α} {Q : α → sProp 𝕄} :
    held c b Y ⊢ iprop((held c b (if yes q then putAt Y p x else Y) -∗ wp frame (wpE (defs₀ (F := F)) 𝒱₀ (c : Thread nD τ) bd) Set.univ (k ⟨⟩) Q)
      -∗ wp frame (wpE (defs₀ (F := F)) 𝒱₀ (c : Thread nD τ) bd) Set.univ
        ((if Scalar.cmpi .ne (Scalar.extui q : BitVec 32) 0#32 = 1#1 then putSel b p x else Prog.ret ⟨⟩) >>= k) Q) := by
  by_cases h : yes q
  · rw [if_pos h, if_pos h]
    exact wp_putSel c bd b Y p x
  · rw [if_neg h, if_neg h]
    simp only [Prog.bind_ret]
    iintro H Hk
    iapply Hk
    iexact H

/-- The two selection lists in a row, and the carried words. -/
theorem selStep_eq (t nh no : BitVec 32) (act kept hum : BitVec 1) (pt : BitVec 32) : selStep (F := F) t nh no act kept hum pt =
    ((if Scalar.cmpi .ne (Scalar.extui (takeH kept hum nh) : BitVec 32) 0#32 = 1#1 then putSel bSelH nh pt else Prog.ret ⟨⟩) >>= fun _ =>
      (if Scalar.cmpi .ne (Scalar.extui (takeO kept hum no) : BitVec 32) 0#32 = 1#1 then putSel bSelO no pt else Prog.ret ⟨⟩) >>= fun _ =>
        Prog.ret (wordsAfter t nh no act (takeH kept hum nh) (takeO kept hum no))) := by
  unfold selStep
  simp only [ite_then, Prog.pure_eq_ret, Prog.bind_ret]
  rfl

/-- One step of the suppression loop. -/
theorem wp_nms (s : Scr F) {t : BitVec 32} (ht : t.toNat < 5120) (nh no : BitVec 32) {k : Words → TProg F α} {Q : α → sProp 𝕄} :
    iprop(ins c X ∗ scr c s) ⊢ iprop((iprop(ins c X ∗ scr c (stepScr X s t nh no)) -∗ wp frame (wpE (defs₀ (F := F)) 𝒱₀ (c : Thread nD τ) bd) Set.univ
          (k (stepWords X s t nh no)) Q)
      -∗ wp frame (wpE (defs₀ (F := F)) 𝒱₀ (c : Thread nD τ) bd) Set.univ (nmsStep t nh no >>= k) Q) := by
  unfold nmsStep scr
  simp only [selStep_eq]
  simp only [Prog.bind_assoc, Prog.pure_eq_ret, Prog.bind_ret]
  iintro ⟨H, K, A, B⟩ Hk
  simp only [Prog.bind_lift]
  iapply (wp_assume 𝒱₀ (c : Thread nD τ) bd Set.univ (chk1 ht))
  iapply (wp_ins c bd X 5 bSc X.sc rfl (rowIx t) (off1_eq ht)) $$ H; iintro H
  iapply (wp_ins c bd X 0 bX0 X.x0 rfl (rowIx t) (off1_eq ht)) $$ H; iintro H
  iapply (wp_ins c bd X 1 bY0 X.y0 rfl (rowIx t) (off1_eq ht)) $$ H; iintro H
  iapply (wp_ins c bd X 2 bX1 X.x1 rfl (rowIx t) (off1_eq ht)) $$ H; iintro H
  iapply (wp_ins c bd X 3 bY1 X.y1 rfl (rowIx t) (off1_eq ht)) $$ H; iintro H
  iapply (wp_ins c bd X 4 bAr X.ar rfl (rowIx t) (off1_eq ht)) $$ H; iintro H
  iapply (wp_half1 c bd X s.keep ht _ _) $$ [H K]
  · isplitl [H]; · iexact H
    iexact K
  iintro ⟨H, K⟩
  iapply (wp_half2 c bd ht)
  iapply (wp_assume 𝒱₀ (c : Thread nD τ) bd Set.univ (chk2 ht _ _))
  iapply (wp_mark c bd s.keep ht _ _ _) $$ K; iintro K
  iapply (wp_ins c bd X 6 bHu X.hu rfl (rowIx t) (off5_eq ht)) $$ H; iintro H
  iapply (wp_ins c bd X 7 bPe X.pe rfl (rowIx t) (off5_eq ht)) $$ H; iintro H
  iapply (wp_putIf c bd bSelH s.selH _ _ _) $$ A; iintro A
  iapply (wp_putIf c bd bSelO s.selO _ _ _) $$ B; iintro B
  iapply Hk
  isplitl [H]; · iexact H
  isplitl [K]; · iexact K
  isplitl [A]; · iexact A
  iexact B

end Cert.Proof.PI

end
-- ==== Proof.PI.Body.lean ====
/-
  The kernel's body as a whole: the suppression loop's label meets its specification by induction on the steps it may still
  take, the two fill loops and the thirty output rows follow, and the result's buffer ends at `outAll`.
-/
module

public import proofs.«01_k».proof.Proof.PI.Steps

@[expose] public section

noncomputable section

namespace Cert.Proof.PI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-! ## The suppression loop -/

/-- What the loop's label does from scratch `s` and words `w`, given enough steps. -/
def loopSpec (c : Dev nD) (X : Ins F) (n : ℕ) (s : Scr F) (w : Words) : sWPT 𝕄 Words :=
  ⟨fun Q => iprop(iprop(ins c X ∗ scr c s) ∗ (iprop(ins c X ∗ scr c (loopTo X n s w).1) -∗ Q (loopTo X n s w).2)),
    fun _ _ hQ => sep_mono_right (PROP := sProp 𝕄) (wand_mono_right (PROP := sProp 𝕄) (hQ _))⟩

theorem loopSpec_apply (c : Dev nD) (X : Ins F) (n : ℕ) (s : Scr F) (w : Words) (Q : Words → sProp 𝕄) :
    loopSpec c X n s w Q = iprop(iprop(ins c X ∗ scr c s) ∗ (iprop(ins c X ∗ scr c (loopTo X n s w).1) -∗ Q (loopTo X n s w).2)) := rfl

/-- The label meets its specification at `n` steps whenever, if it goes on, its position is below 5120 and no more than
    `n` before it. -/
theorem loop_le (c : Dev nD) (X : Ins F) : ∀ (n : ℕ) (s : Scr F) (w : Words),
    (Scalar.cmpi .eq w.2.2.2 1#32 = 1#1 → w.1.toNat < 5120 ∧ 5120 - w.1.toNat ≤ n) → ∀ K : Words → sProp 𝕄,
    loopSpec c X n s w K ⊢ wp frame (wpE (defs₀ (F := F)) 𝒱₀ (c : Thread nD τ) (some n)) Set.univ
      (defs₀ (F := F) .tc 1 (whileArgs w.1 w.2.1 w.2.2.1 w.2.2.2)) K := by
  intro n
  induction n with
  | zero =>
    intro s w hw K
    rw [while_eq, loopSpec_apply]
    unfold nmsLoop loopTo
    rw [if_neg (fun h => by have := hw h; omega)]
    iintro ⟨H, Hk⟩
    rw [Prog.pure_eq_ret, wp_ret]; imodintro
    iapply Hk
    iexact H
  | succ n ih =>
    intro s w hw K
    rw [while_eq, loopSpec_apply]
    unfold nmsLoop loopTo
    by_cases h : Scalar.cmpi .eq w.2.2.2 1#32 = 1#1
    · rw [if_pos h, if_pos h]
      obtain ⟨ht, hn⟩ := hw h
      iintro ⟨H, Hk⟩
      iapply (wp_nms c (some (n + 1)) X s ht w.2.1 w.2.2.1) $$ H
      iintro H
      have ih' := ih (stepScr X s w.1 w.2.1 w.2.2.1) (stepWords X s w.1 w.2.1 w.2.2.1) (fun hg => by
        have e : (stepWords X s w.1 w.2.1 w.2.2.1).1.toNat = w.1.toNat + 1 := next_lt ht
        have hl : (stepWords X s w.1 w.2.1 w.2.2.1).1.toNat < 5120 := go_lt (by show (Scalar.addi w.1 1#32).toNat ≤ 5120; rw [next_lt ht]; omega) hg
        omega)
      iapply (wp_call_spec 𝒱₀ (c : Thread nD τ) (some (n + 1)) Set.univ (loopSpec c X n (stepScr X s w.1 w.2.1 w.2.2.1) (stepWords X s w.1 w.2.1 w.2.2.1)) n
        (fun u hu => by cases hu; exact Nat.lt_succ_self n) ih')
      rw [loopSpec_apply]
      isplitl [H]; · iexact H
      iintro H
      rw [wp_ret]; imodintro
      iapply Hk
      iexact H
    · rw [if_neg h, if_neg h]
      iintro ⟨H, Hk⟩
      rw [Prog.pure_eq_ret, wp_ret]; imodintro
      iapply Hk
      iexact H

variable {α : Type} (c : Dev nD) (bd : Option 𝒱₀.V) (X : Ins F)

/-! ## The fill loops -/

/-- A fill trip as a read, a write or none, and the count. -/
theorem fillStep_bind (b : Memref sig .tc .vmem S8x128 .i32) (nv o cnt : BitVec 32) : fillStep (F := F) b nv o cnt =
    ldSel b >>= fun r : Vec F S1x128 .i32 =>
      (if Scalar.cmpi .ne (Scalar.extui (fillTake (F := F) nv o cnt r) : BitVec 32) 0#32 = 1#1 then putSel b (Scalar.addi nv cnt) o else Prog.ret ⟨⟩) >>= fun _ =>
        Prog.ret (Scalar.addi cnt (Scalar.select (fillTake (F := F) nv o cnt r) 1#32 0#32)) := by
  unfold fillStep
  simp only [ite_then, Prog.pure_eq_ret, Prog.bind_ret]

/-- A fill loop of thirty trips. -/
theorem wp_fill (l : Scf.Loop 32) (hok : l.OK) (h30 : l.trips = 30) (b : Memref sig .tc .vmem S8x128 .i32) (nv : BitVec 32) (sel : S8x128.Idx → BitVec 32)
    {k : BitVec 32 → TProg F α} {Q : α → sProp 𝕄} :
    held c b sel ⊢ iprop((∀ x, held c b (fillTo F nv sel 30).1 -∗ wp frame (wpE (defs₀ (F := F)) 𝒱₀ (c : Thread nD τ) bd) Set.univ (k x) Q)
      -∗ wp frame (wpE (defs₀ (F := F)) 𝒱₀ (c : Thread nD τ) bd) Set.univ
        (Scf.Loop.for l hok 0#32 (fun i cnt => fillStep b nv (Scf.iv 0#32 1#32 i) cnt) >>= k) Q) := by
  rw [← h30]
  iintro H Hk
  iapply (Scf.wp_for_bind frame (wpE (defs₀ (F := F)) 𝒱₀ (c : Thread nD τ) bd) Set.univ _ _ _ hok _ _
    (fun n cnt => iprop(⌜cnt = (fillTo F nv sel n).2⌝ ∗ held (F := F) c b (fillTo F nv sel n).1)) (fun i cnt => by
      rw [fillStep_bind]
      iintro ⟨%ha, H⟩
      subst ha
      iapply (wp_sel c bd b _) $$ H
      iintro H
      iapply (wp_putIf c bd b _ _ _ _) $$ H
      iintro H
      rw [wp_ret]; imodintro
      isplitr; · (ipureintro; rfl)
      iexact H)) $$ [H]
  · isplitr; · (ipureintro; rfl)
    iexact H
  iintro %cnt ⟨%ha, H⟩
  iapply Hk
  iexact H

/-! ## The output rows -/

/-- One output row. -/
theorem wp_out (b : Memref sig .tc .vmem S8x128 .i32) (Y : S8x128.Idx → BitVec 32) (l : ℕ) (n : Fin 30) (hn : ∀ a, (![n.val, 0] : Fin 2 → ℕ) a + S1x128.size a ≤ S30x128.size a)
    (hl : (pickAt Y l).toNat < 5120) (O : S30x128.Idx → Elt F .f32) {k : PUnit → TProg F α} {Q : α → sProp 𝕄} :
    iprop(ins c X ∗ held c b Y ∗ held c bOut O) ⊢ iprop((iprop(ins c X ∗ held c b Y ∗ held c bOut (setRow O n (outOf X (pickAt Y l))))
        -∗ wp frame (wpE (defs₀ (F := F)) 𝒱₀ (c : Thread nD τ) bd) Set.univ (k ⟨⟩) Q)
      -∗ wp frame (wpE (defs₀ (F := F)) 𝒱₀ (c : Thread nD τ) bd) Set.univ (rowStep b l n.val hn >>= k) Q) := by
  unfold rowStep
  simp only [Prog.bind_assoc]
  iintro ⟨H, A, O⟩ Hk
  iapply (wp_sel c bd b Y) $$ A; iintro A
  rw [Prog.bind_lift]
  iapply (wp_assume 𝒱₀ (c : Thread nD τ) bd Set.univ (chk3 hl))
  iapply (wp_ins c bd X 12 bOS X.os rfl (rowIx (pickAt Y l)) (off6_eq hl)) $$ H; iintro H
  iapply (wp_ins c bd X 8 bOX0 X.ox0 rfl (rowIx (pickAt Y l)) (off6_eq hl)) $$ H; iintro H
  iapply (wp_ins c bd X 9 bOY0 X.oy0 rfl (rowIx (pickAt Y l)) (off6_eq hl)) $$ H; iintro H
  iapply (wp_ins c bd X 10 bOX1 X.ox1 rfl (rowIx (pickAt Y l)) (off6_eq hl)) $$ H; iintro H
  iapply (wp_ins c bd X 11 bOY1 X.oy1 rfl (rowIx (pickAt Y l)) (off6_eq hl)) $$ H; iintro H
  iapply (wp_row c bd bOut O n rfl) $$ O; iintro O
  iapply (wp_setRow c bd bOut O n rfl) $$ O; iintro O
  iapply Hk
  isplitl [H]; · iexact H
  isplitl [A]; · iexact A
  iexact O

/-- The result with the rows from `base + l` to `base + 14` written from a selection list. -/
def intoRows (Y : S8x128.Idx → BitVec 32) (base l : ℕ) (O : S30x128.Idx → Elt F .f32) : S30x128.Idx → Elt F .f32 := fun i =>
  if base + l ≤ (i 0).val ∧ (i 0).val < base + 15 then outOf X (pickAt Y ((i 0).val - base)) (ix2 0 (i 1)) else O i

theorem intoRows_step (Y : S8x128.Idx → BitVec 32) (base l : ℕ) (hl : l < 15) (hb : base + l < 30) (O : S30x128.Idx → Elt F .f32) :
    intoRows X Y base (l + 1) (setRow O ⟨base + l, hb⟩ (outOf X (pickAt Y l))) = intoRows X Y base l O := by
  funext i
  unfold intoRows setRow
  by_cases h1 : base + (l + 1) ≤ (i 0).val ∧ (i 0).val < base + 15
  · rw [if_pos h1, if_pos ⟨by omega, h1.2⟩]
  · rw [if_neg h1]
    by_cases h2 : (i 0).val = base + l
    · rw [if_pos h2, if_pos ⟨by omega, by omega⟩, show (i 0).val - base = l by omega]
    · rw [if_neg h2, if_neg (by omega)]

/-- The rows of one selection list. -/
theorem wp_rows (b : Memref sig .tc .vmem S8x128 .i32) (Y : S8x128.Idx → BitVec 32) (base : ℕ) (hb : base + 15 ≤ 30) (hY : ∀ l, l < 15 → (pickAt Y l).toNat < 5120)
    {Q : α → sProp 𝕄} : ∀ (j l : ℕ) (h : l + j ≤ 15), l + j = 15 → ∀ (O : S30x128.Idx → Elt F .f32) (k : PUnit → TProg F α),
    iprop(ins c X ∗ held c b Y ∗ held c bOut O) ⊢ iprop((iprop(ins c X ∗ held c b Y ∗ held c bOut (intoRows X Y base l O))
        -∗ wp frame (wpE (defs₀ (F := F)) 𝒱₀ (c : Thread nD τ) bd) Set.univ (k ⟨⟩) Q)
      -∗ wp frame (wpE (defs₀ (F := F)) 𝒱₀ (c : Thread nD τ) bd) Set.univ (rows b base hb j l h >>= k) Q) := by
  intro j
  induction j with
  | zero =>
    intro l h hl O k
    have e : intoRows X Y base l O = O := funext fun i => if_neg (by omega)
    unfold rows
    rw [e, Prog.pure_eq_ret, Prog.bind_ret]
    iintro H Hk
    iapply Hk
    iexact H
  | succ j ih =>
    intro l h hl O k
    unfold rows
    rw [Prog.bind_assoc]
    iintro H Hk
    iapply (wp_out c bd X b Y l ⟨base + l, by omega⟩ (row_inb (by omega)) (hY l (by omega)) O) $$ H
    iintro H
    iapply (ih (l + 1) _ (by omega) _ k) $$ H
    iintro H
    iapply Hk
    rw [intoRows_step X Y base l (by omega)]
    iexact H

/-- Both lists' rows are the whole result. -/
theorem intoRows_all (O : S30x128.Idx → Elt F .f32) : intoRows X (listO X) 15 0 (intoRows X (listH X) 0 0 O) = outAll X := by
  funext i
  have hi : (i 0).val < 30 := (i 0).isLt
  unfold intoRows outAll
  by_cases h : (i 0).val < 15
  · rw [if_neg (by omega), if_pos (by omega), if_pos h, Nat.sub_zero]
  · rw [if_pos (by omega), if_neg h]

/-! ## The whole body -/

/-- The scratch buffers cleared. -/
theorem wp_clear (s : Scr F) {k : PUnit → TProg F α} {Q : α → sProp 𝕄} :
    scr c s ⊢ iprop((scr c (scr0 F) -∗ wp frame (wpE (defs₀ (F := F)) 𝒱₀ (c : Thread nD τ) bd) Set.univ (k ⟨⟩) Q)
      -∗ wp frame (wpE (defs₀ (F := F)) 𝒱₀ (c : Thread nD τ) bd) Set.univ (clear >>= k) Q) := by
  have hK : ∀ i : S40x128.Idx, i ∈ (Rect.unit (s := S40x128) ![0, 0] S40x128.size inb_S40x128_S40x128_0_0).set := fun i =>
    Rect.mem_set_unit.2 fun a => match a with
      | ⟨0, _⟩ => ⟨Nat.zero_le _, lt_of_lt_of_eq (i 0).isLt (Nat.zero_add _).symm⟩
      | ⟨1, _⟩ => ⟨Nat.zero_le _, lt_of_lt_of_eq (i 1).isLt (Nat.zero_add _).symm⟩
  have hS : ∀ i : S8x128.Idx, i ∈ (Rect.unit (s := S8x128) ![0, 0] S8x128.size inb_S8x128_S8x128_0_0).set := fun i =>
    Rect.mem_set_unit.2 fun a => match a with
      | ⟨0, _⟩ => ⟨Nat.zero_le _, lt_of_lt_of_eq (i 0).isLt (Nat.zero_add _).symm⟩
      | ⟨1, _⟩ => ⟨Nat.zero_le _, lt_of_lt_of_eq (i 1).isLt (Nat.zero_add _).symm⟩
  unfold clear scr
  simp only [Prog.bind_assoc]
  iintro ⟨K, A, B⟩ Hk
  iapply (wp_ld c bd bKeep s.keep) $$ K; iintro K
  iapply (wp_st c bd bKeep s.keep (scr0 F).keep (fun _ => rfl) (fun i hi => absurd (hK i) hi)) $$ K; iintro K
  iapply (wp_ld c bd (e := .i32) bSelH s.selH) $$ A; iintro A
  iapply (wp_st c bd (e := .i32) bSelH s.selH (scr0 F).selH (fun _ => rfl) (fun i hi => absurd (hS i) hi)) $$ A; iintro A
  iapply (wp_ld c bd (e := .i32) bSelO s.selO) $$ B; iintro B
  iapply (wp_st c bd (e := .i32) bSelO s.selO (scr0 F).selO (fun _ => rfl) (fun i hi => absurd (hS i) hi)) $$ B; iintro B
  iapply Hk
  isplitl [K]; · iexact K
  isplitl [A]; · iexact A
  iexact B

/-- The body leaves the operands as they were and the result at `outAll`. -/
theorem wp_kernel (hH : ∀ l, l < 15 → (pickAt (listH X) l).toNat < 5120) (hO : ∀ l, l < 15 → (pickAt (listO X) l).toNat < 5120)
    (s : Scr F) (O : S30x128.Idx → Elt F .f32) (K : PUnit → sProp 𝕄) :
    iprop(ins c X ∗ scr c s ∗ held c bOut O) ⊢ iprop(((iprop(ins c X ∗ (∃ s, scr c s) ∗ held c bOut (outAll X))) -∗ K ⟨⟩)
      -∗ wp frame (wpE (defs₀ (F := F)) 𝒱₀ (c : Thread nD τ) none) Set.univ kernelBody K) := by
  unfold kernelBody
  iintro ⟨H, S, R⟩ Hk
  iapply (wp_clear c none s) $$ S; iintro S
  rw [Prog.bind_lift]
  iapply (wp_call_spec 𝒱₀ (c : Thread nD τ) none Set.univ (loopSpec c X 5120 (scr0 F) (0#32, 0#32, 0#32, 1#32)) 5120 (fun u hu => nomatch hu)
    (loop_le c X 5120 (scr0 F) (0#32, 0#32, 0#32, 1#32) (fun _ => ⟨by decide, by decide⟩)))
  rw [loopSpec_apply]
  isplitl [H S]
  · isplitl [H]; · iexact H
    iexact S
  unfold scr
  iintro ⟨H, S, A, B⟩
  iapply (wp_fill c none k0_t3_loop k0_t3_ok t3_trips bSelH _ _) $$ A
  iintro %x A
  iapply (wp_fill c none k0_t4_loop k0_t4_ok t4_trips bSelO _ _) $$ B
  iintro %y B
  iapply (wp_rows c none X bSelH (listH X) 0 _ hH 15 0 _ rfl O _) $$ [H A R]
  · isplitl [H]; · iexact H
    isplitl [A]; · iexact A
    iexact R
  iintro ⟨H, A, R⟩
  rw [← Prog.bind_pure (rows bSelO 15 _ 15 0 _)]
  iapply (wp_rows c none X bSelO (listO X) 15 _ hO 15 0 _ rfl _ _) $$ [H B R]
  · isplitl [H]; · iexact H
    isplitl [B]; · iexact B
    iexact R
  iintro ⟨H, B, R⟩
  rw [intoRows_all, Prog.pure_eq_ret, wp_ret]; imodintro
  iapply Hk
  isplitl [H]; · iexact H
  isplitr [R]
  · iexists (⟨(loopEnd X).1.keep, listH X, listO X⟩ : Scr F)
    isplitl [S]; · iexact S
    isplitl [A]; · iexact A
    iexact B
  iexact R

end Cert.Proof.PI

end
-- ==== Proof.PI.Lanes.lean ====
/-
  The kernel reads lane `c` of a row by replacing every other lane by zero and summing: on words that is the lane itself, for
  every choice of float values. From this: every index the kernel picks is below 5120, as long as the operand of original
  indices is.
-/
module

public import proofs.«01_k».proof.Proof.PI.Words
public import proofs.«01_k».proof.Proof.PI.Model
public import Idealize.ShloMosaic.PureOps.Reduce
public import Mathlib.Data.BitVec

@[expose] public section

noncomputable section

namespace Cert.Proof.PI

open Cert.KernelIdeal Cert.KernelIdeal.Gen
open Idealize.ShloMosaic Idealize.ShloMosaic.TcCoe

variable {F : FTy → Type} [FloatOps F]

/-! ## Rows -/

/-- A row's index is its lane. -/
theorem eq_lane (i : S1x128.Idx) : i = ix2 (0 : Fin 1) (i 1 : Fin 128) := by
  funext a
  match a with
  | ⟨0, _⟩ => exact Fin.ext (Nat.lt_one_iff.mp (i 0).isLt)
  | ⟨1, _⟩ => rfl

/-- Every index of the whole row drops to the sum's one index. -/
theorem drop_all (j : S1.Idx) : (Finset.univ.filter fun i : S1x1x128.Idx => reduces_S1x1x128_S1.drop i = j) = Finset.univ := by
  refine Finset.filter_true_of_mem fun i _ => ?_
  funext a
  match a with
  | ⟨0, _⟩ => exact Fin.ext ((Nat.lt_one_iff.mp (Fin.isLt _)).trans (Nat.lt_one_iff.mp (Fin.isLt _)).symm)

/-- The sum of a row of words. -/
theorem sumI_eq (v : IVec S1x128 32) : sumI v = ∑ i, v i := by
  unfold sumI extractAt shapeCast
  refine (congrFun (multiReductionI_eq_reduceFold .add _ _ reduces_S1x1x128_S1 rfl) _).trans ?_
  show reduceFold reduces_S1x1x128_S1 (· + ·) (0#32 : BitVec 32) _ _ = _
  rw [reduceFold_add_eq_sum, drop_all, show (0#32 : BitVec 32) = 0 from rfl, zero_add]
  exact Equiv.sum_comp (Shape.reshapeEquiv shapeCasts_S1x128_S1x1x128) v

/-- Lane `i`'s number against a word. -/
theorem lane_eq (i : S1x128.Idx) (c : BitVec 32) : cmpi .eq lane (broadcast S1x128 c) i = 1#1 ↔ (i 1).val = c.toNat := by
  have hl : lane i = BitVec.ofNat 32 (i 1).val := by
    show BitVec.ofNat 32 (0 * 128 + (i 1).val) = _
    rw [Nat.zero_mul, Nat.zero_add]
  have hi : (i 1).val < 128 := (i 1).isLt
  show BitVec.ofBool (lane i == c) = 1#1 ↔ _
  rw [hl]
  by_cases h : BitVec.ofNat 32 (i 1).val = c
  · rw [h, beq_self_eq_true, ← h, BitVec.toNat_ofNat]
    exact ⟨fun _ => by omega, fun _ => rfl⟩
  · rw [beq_false_of_ne h]
    constructor
    · intro e; exact absurd e (by decide)
    · intro e
      exact absurd (BitVec.eq_of_toNat_eq (by rw [BitVec.toNat_ofNat, e]; have := c.isLt; omega)) h

/-- A row with every lane but `c` replaced by zero sums to lane `c`. -/
theorem sum_lane {α : Type} [AddCommMonoid α] (v : S1x128.Idx → α) (c : BitVec 32) (h : c.toNat < 128) :
    (∑ i, if (i 1).val = c.toNat then v i else 0) = v (ix2 0 ⟨c.toNat, h⟩) := by
  rw [Finset.sum_eq_single (ix2 (0 : Fin 1) (⟨c.toNat, h⟩ : Fin 128) : S1x128.Idx)]
  · exact if_pos rfl
  · intro i _ hi
    refine if_neg fun e => hi ?_
    rw [eq_lane i]
    exact congrArg (ix2 (0 : Fin 1)) (Fin.ext e)
  · intro hn; exact absurd (Finset.mem_univ _) hn

theorem select_at {α : Type} (m : IVec S1x128 1) (a b : S1x128.Idx → α) (i : S1x128.Idx) : select m a b i = if m i = 1#1 then a i else b i := rfl

/-- The shape cast between equal shapes changes nothing. -/
theorem castRow {α : Type} (v : S1x128.Idx → α) : shapeCast S1x128 v shapeCasts_S1x128_S1x128 = v := by
  funext i
  show v (Shape.reshapeEquiv _ i) = _
  rw [Shape.reshapeEquiv_self]

theorem extS_eq (v : IVec S1x128 32) (c : BitVec 32) (h : c.toNat < 128) : extS v c = v (ix2 0 ⟨c.toNat, h⟩) := by
  unfold extS
  rw [sumI_eq]
  simp only [select_at, lane_eq]
  exact sum_lane v c h

theorem extI_eq (v : IVec S1x128 32) (c : BitVec 32) (h : c.toNat < 128) : extI v c = v (ix2 0 ⟨c.toNat, h⟩) := by
  unfold extI
  rw [castRow]
  exact extS_eq v c h

/-- The lane of a position. -/
theorem lane_toNat (t : BitVec 32) : (Scalar.andi t 127#32).toNat = t.toNat % 128 := by
  show (t &&& 127#32).toNat = _
  rw [BitVec.toNat_and]
  exact Nat.and_two_pow_sub_one_eq_mod t.toNat 7

theorem lane_lt (t : BitVec 32) : (Scalar.andi t 127#32).toNat < 128 := by rw [lane_toNat]; omega

/-- A row with one lane replaced. -/
theorem putI_at (v : IVec S1x128 32) (c x : BitVec 32) (i : S1x128.Idx) : putI v c x i = if (i 1).val = c.toNat then x else v i := by
  unfold putI
  rw [castRow, select_at]
  simp only [lane_eq]
  rfl

theorem putF_at (v : FVec F S1x128 .f32) (c : BitVec 32) (x : F .f32) (i : S1x128.Idx) :
    putF v c x i = if (i 1).val = c.toNat then x else v i := by
  unfold putF
  rw [castRow, select_at]
  simp only [lane_eq]
  rfl

/-- A list with one place replaced, read in its first row. -/
theorem putAt_at (sel : S8x128.Idx → BitVec 32) (c x : BitVec 32) (l : Fin 128) :
    putAt sel c x (ix2 0 l) = if l.val = c.toNat then x else sel (ix2 0 l) := by
  unfold putAt setRow
  refine (if_pos rfl).trans ?_
  rw [putI_at]
  rfl

/-! ## The picked indices are in range -/

/-- Every place of a list's first row is below 5120. -/
def Small (sel : S8x128.Idx → BitVec 32) : Prop := ∀ l : Fin 128, (sel (ix2 0 l)).toNat < 5120

theorem small_putAt {sel : S8x128.Idx → BitVec 32} (h : Small sel) (c : BitVec 32) {x : BitVec 32} (hx : x.toNat < 5120) : Small (putAt sel c x) := fun l => by
  rw [putAt_at]
  split
  · exact hx
  · exact h l

theorem pickAt_eq (sel : S8x128.Idx → BitVec 32) (l : ℕ) (hl : l < 128) : pickAt sel l = sel (ix2 0 ⟨l, hl⟩) := by
  have e : (BitVec.ofNat 32 l).toNat = l := by rw [BitVec.toNat_ofNat]; omega
  unfold pickAt
  rw [extS_eq _ _ (by rw [e]; exact hl)]
  show sel (ix2 0 ⟨(BitVec.ofNat 32 l).toNat, _⟩) = _
  congr 2
  exact Fin.ext e

section Bounds
variable (X : Ins F) (hp : ∀ i, (X.pe i).toNat < 5120)
include hp

theorem origIx_lt (t : BitVec 32) : (origIx X t).toNat < 5120 := by
  unfold origIx
  rw [extI_eq _ _ (lane_lt t)]
  exact hp _

theorem loop_small : ∀ (n : ℕ) (s : Scr F) (w : Words), Small s.selH ∧ Small s.selO →
    Small (loopTo X n s w).1.selH ∧ Small (loopTo X n s w).1.selO
  | 0, _, _, h => h
  | n + 1, s, w, h => by
    unfold loopTo
    split
    · refine loop_small n _ _ ⟨?_, ?_⟩
      · show Small (if _ then _ else _)
        split
        · exact small_putAt h.1 _ (origIx_lt X hp _)
        · exact h.1
      · show Small (if _ then _ else _)
        split
        · exact small_putAt h.2 _ (origIx_lt X hp _)
        · exact h.2
    · exact h

omit hp in
theorem fill_small (nv : BitVec 32) (sel : S8x128.Idx → BitVec 32) (h : Small sel) : ∀ k, k ≤ 30 → Small (fillTo F nv sel k).1
  | 0, _ => h
  | k + 1, hk => by
    show Small (if _ then _ else _)
    split
    · exact small_putAt (fill_small nv sel h k (by omega)) _ (by rw [iv_toNat (by omega)]; omega)
    · exact fill_small nv sel h k (by omega)

theorem listH_lt (l : ℕ) (hl : l < 15) : (pickAt (listH X) l).toNat < 5120 := by
  rw [pickAt_eq _ l (by omega)]
  exact fill_small _ _ (loop_small X hp 5120 (scr0 F) _ ⟨fun _ => by show 0 < 5120; omega, fun _ => by show 0 < 5120; omega⟩).1 30 le_rfl _

theorem listO_lt (l : ℕ) (hl : l < 15) : (pickAt (listO X) l).toNat < 5120 := by
  rw [pickAt_eq _ l (by omega)]
  exact fill_small _ _ (loop_small X hp 5120 (scr0 F) _ ⟨fun _ => by show 0 < 5120; omega, fun _ => by show 0 < 5120; omega⟩).2 30 le_rfl _

end Bounds

end Cert.Proof.PI

end
-- ==== Proof.PI.Host.lean ====
/-
  The host lines around the kernel, read as terms of the arguments: what the kernel's thirteen operands are (`insOf`), and
  what @main returns given the kernel's result (`resOf`). For every choice of float values.
-/
module

public import proofs.«01_k».proof.Proof.PI.Model
public import proofs.«01_k».proof.Proof.Gen.KernelIdeal.Launch
public import Idealize.ShloMosaic.Lib.StableHlo.RunRead
public import Idealize.ShloMosaic.Lib.Pipeline.Frame

@[expose] public section

noncomputable section

namespace Cert.Proof.PI

open Cert.KernelIdeal Cert.KernelIdeal.Gen
open Idealize.ShloMosaic Idealize.ShloMosaic.TcCoe
open Idealize.SL.Sem

variable {F : FTy → Type} [FloatOps F]

/-! ## The terms -/

/-- The boxes, each class moved by its own offset. -/
def movedBoxes (B : FVec F S5000x4 .f32) (L : IVec S5000 32) : FVec F S5000x4 .f32 :=
  addf B (broadcastInDim S5000x4 ![0, 1] bcast_S5000x1_S5000x4_0_1 (broadcastInDim S5000x1 ![0] bcast_S5000_S5000x1_0
    (mulf (sitofp .f32 L) (broadcastInDim S5000 ![] bcast_S_S5000
      (addf (Host.reduce FloatOps.maximumf B (constant S_ .f32 0xFF800000#32) reducesTo_S5000x4_S_d0_1 h_S_) (constant S_ .f32 0x3F800000#32))))))

/-- The order of decreasing scores. -/
def orderOf (S : FVec F S5000 .f32) : IVec S5000 32 :=
  (Host.sort2 S5000 0 comparator_f32_i32_d0 (Host.negf S) (iotaInDim S5000 32 0)).2

/-- Positions as a column of row numbers, a negative one counted from the end. -/
def asRows (o : IVec S5000 32) : IVec S5000x1 32 :=
  broadcastInDim S5000x1 ![0] bcast_S5000_S5000x1_0
    (select (cmpi .slt o (broadcastInDim S5000 ![] bcast_S_S5000 (constantI S_ 32 0#32)))
      (addi o (broadcastInDim S5000 ![] bcast_S_S5000 (constantI S_ 32 5000#32))) o)

/-- A vector of 5000 filled up with one value and laid out in 40 rows. -/
def padded {α : Type} (x : S5000.Idx → α) (z : S_.Idx → α) : S40x128.Idx → α :=
  fun i => shapeCast S40x128 (concatenate S5120 0 [⟨S5000, x⟩, ⟨S120, broadcastInDim S120 ![] bcast_S_S120 z⟩] concatenates_S5000_S120_S5120_d0)
    shapeCasts_S5120_S40x128 i

/-- The columns of a table of boxes. -/
def col0 (X : FVec F S5000x4 .f32) : FVec F S5000 .f32 :=
  fun i => shapeCast S5000 (extractStridedSlice S5000x1 ![0, 0] X slices_S5000x4_S5000x1_0_0) shapeCasts_S5000x1_S5000 i
def col1 (X : FVec F S5000x4 .f32) : FVec F S5000 .f32 :=
  fun i => shapeCast S5000 (extractStridedSlice S5000x1 ![0, 1] X slices_S5000x4_S5000x1_0_1) shapeCasts_S5000x1_S5000 i
def col2 (X : FVec F S5000x4 .f32) : FVec F S5000 .f32 :=
  fun i => shapeCast S5000 (extractStridedSlice S5000x1 ![0, 2] X slices_S5000x4_S5000x1_0_2) shapeCasts_S5000x1_S5000 i
def col3 (X : FVec F S5000x4 .f32) : FVec F S5000 .f32 :=
  fun i => shapeCast S5000 (extractStridedSlice S5000x1 ![0, 3] X slices_S5000x4_S5000x1_0_3) shapeCasts_S5000x1_S5000 i

/-- The moved boxes in the order of decreasing scores. -/
def sortedBoxes (B : FVec F S5000x4 .f32) (S : FVec F S5000 .f32) (L : IVec S5000 32) : FVec F S5000x4 .f32 :=
  Host.gather gather_S5000x4_S5000x1_S5000x4_1_0_n_n_0_1_14 (movedBoxes B L) (asRows (orderOf S))

/-- The kernel's operands. -/
def insOf (B : FVec F S5000x4 .f32) (S : FVec F S5000 .f32) (L : IVec S5000 32) : Ins F where
  x0 := padded (col0 (sortedBoxes B S L)) (constant S_ .f32 0x00000000#32)
  y0 := padded (col1 (sortedBoxes B S L)) (constant S_ .f32 0x00000000#32)
  x1 := padded (col2 (sortedBoxes B S L)) (constant S_ .f32 0x00000000#32)
  y1 := padded (col3 (sortedBoxes B S L)) (constant S_ .f32 0x00000000#32)
  ar := padded (mulf (subf (col2 (sortedBoxes B S L)) (col0 (sortedBoxes B S L))) (subf (col3 (sortedBoxes B S L)) (col1 (sortedBoxes B S L))))
    (constant S_ .f32 0x00000000#32)
  sc := padded (Host.gather gather_S5000_S5000x1_S5000_n_0_n_n_0_1_1 S (asRows (orderOf S))) (constant S_ .f32 0xBF800000#32)
  hu := padded (extui 32 (cmpi .eq (Host.gather gather_S5000_S5000x1_S5000_n_0_n_n_0_1_1 L (asRows (orderOf S)))
    (broadcastInDim S5000 ![] bcast_S_S5000 (constantI S_ 32 0#32))) natLt_1_32) (constantI S_ 32 0#32)
  pe := padded (orderOf S) (constantI S_ 32 0#32)
  ox0 := padded (col0 B) (constant S_ .f32 0x00000000#32)
  oy0 := padded (col1 B) (constant S_ .f32 0x00000000#32)
  ox1 := padded (col2 B) (constant S_ .f32 0x00000000#32)
  oy1 := padded (col3 B) (constant S_ .f32 0x00000000#32)
  os := padded S (constant S_ .f32 0x00000000#32)

/-- The selected rows' indices, read off the kernel's result. -/
def pickedOf (O : FVec F S30x128 .f32) : IVec S30 32 :=
  fptosi 32 (fun i => shapeCast S30 (extractStridedSlice S30x1 ![0, 0] O slices_S30x128_S30x1_0_0) shapeCasts_S30x1_S30 i)

/-- @main's result, given the kernel's. -/
def resOf (H : FVec F S5000x256 .f32) (O : FVec F S30x128 .f32) : FVec F S30x260 .f32 :=
  concatenate S30x260 1
    [⟨S30x256, mulf
      (Host.gather gather_S5000x256_S30x1_S30x256_1_0_n_n_0_1_1256 H (broadcastInDim S30x1 ![0] bcast_S30_S30x1_0
        (select (cmpi .slt (pickedOf O) (broadcastInDim S30 ![] bcast_S_S30 (constantI S_ 32 0#32)))
          (addi (pickedOf O) (broadcastInDim S30 ![] bcast_S_S30 (constantI S_ 32 5000#32))) (pickedOf O))))
      (broadcastInDim S30x256 ![0, 1] bcast_S30x1_S30x256_0_1 (broadcastInDim S30x1 ![0] bcast_S30_S30x1_0
        (fun i => shapeCast S30 (extractStridedSlice S30x1 ![0, 1] O slices_S30x128_S30x1_0_1) shapeCasts_S30x1_S30 i)))⟩,
     ⟨S30x4, extractStridedSlice S30x4 ![0, 2] O slices_S30x128_S30x4_0_2⟩] concatenates_S30x256_S30x4_S30x260_d1

/-! ## The lines: none allocates a buffer, and what each writes -/

theorem pre0_fresh : (hostOps0 : List (HloOp τ sig (Elt F))).Forall fun op => op.fresh = ∅ := StableHlo.forall_fresh_of_map rfl
theorem pre1_fresh : (hostOps0_1 : List (HloOp τ sig (Elt F))).Forall fun op => op.fresh = ∅ := StableHlo.forall_fresh_of_map rfl
theorem pre2_fresh : (hostOps0_2 : List (HloOp τ sig (Elt F))).Forall fun op => op.fresh = ∅ := StableHlo.forall_fresh_of_map rfl
theorem post_fresh : (hostOps1 : List (HloOp τ sig (Elt F))).Forall fun op => op.fresh = ∅ := StableHlo.forall_fresh_of_map rfl

/-- What the lines after the kernel write. -/
abbrev postW : List (Ref sig .tc) := [main_v101, main_v102, main_v103, main_v104, main_v105, main_v106, main_c_20, main_v107, main_v108,
  main_c_21, main_v109, main_v110, main_v111, main_v112, main_v113, main_v114, main_v115, main_v116, main_v117]

theorem post_writes : (hostOps1 : List (HloOp τ sig (Elt F))).Forall fun op => op.writes ⊆ (postW.map (Proc.devRef (τ := τ) .tc)).toFinset :=
  StableHlo.forall_writes_sub_of_map rfl

/-! ## The lines before the kernel -/

/-- A padded vector, from its two pieces. -/
theorem padded_congr {α : Type} {x x' : S5000.Idx → α} {y : S120.Idx → α} {z : S_.Idx → α} (hx : x = x')
    (hy : y = broadcastInDim S120 ![] bcast_S_S120 z) :
    (fun i => shapeCast S40x128 (concatenate S5120 0 [⟨S5000, x⟩, ⟨S120, y⟩] concatenates_S5000_S120_S5120_d0) shapeCasts_S5120_S40x128 i)
      = padded x' z := by
  subst hx hy
  rfl

/-- The contents when the kernel starts. -/
abbrev startVal (V : Valuation τ sig (Elt F)) : Valuation τ sig (Elt F) :=
  StableHlo.after (List.flatten [hostOps0, hostOps0_1, hostOps0_2]) V

omit [FloatOps F] in
/-- One line after another. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

section Reads
variable (V : Valuation τ sig (Elt F))

theorem startVal_eq : startVal V = StableHlo.after hostOps0_2 (StableHlo.after hostOps0_1 (StableHlo.after hostOps0 V)) := by
  unfold startVal
  simp only [List.flatten_cons, List.flatten_nil, List.append_nil]
  rw [after_app, after_app]

theorem start_arg0 : startVal V (Proc.devRef .tc main_arg0) = V (Proc.devRef .tc main_arg0) := by rw [startVal_eq]; after_reads_simp
theorem start_arg1 : startVal V (Proc.devRef .tc main_arg1) = V (Proc.devRef .tc main_arg1) := by rw [startVal_eq]; after_reads_simp
theorem start_arg2 : startVal V (Proc.devRef .tc main_arg2) = V (Proc.devRef .tc main_arg2) := by rw [startVal_eq]; after_reads_simp
theorem start_arg3 : startVal V (Proc.devRef .tc main_arg3) = V (Proc.devRef .tc main_arg3) := by rw [startVal_eq]; after_reads_simp

/-- The operands, of the arguments a valuation holds. -/
abbrev insAtVal : Ins F := insOf (V (Proc.devRef .tc main_arg0)) (V (Proc.devRef .tc main_arg1)) (V (Proc.devRef .tc main_arg3))

theorem start_x0 : startVal V (Proc.devRef .tc main_v21) = (insAtVal V).x0 := by rw [startVal_eq]; after_reads_simp; refine padded_congr ?_ ?_ <;> after_reads_simp <;> rfl
theorem start_y0 : startVal V (Proc.devRef .tc main_v26) = (insAtVal V).y0 := by rw [startVal_eq]; after_reads_simp; refine padded_congr ?_ ?_ <;> after_reads_simp <;> rfl
theorem start_x1 : startVal V (Proc.devRef .tc main_v31) = (insAtVal V).x1 := by rw [startVal_eq]; after_reads_simp; refine padded_congr ?_ ?_ <;> after_reads_simp <;> rfl
theorem start_y1 : startVal V (Proc.devRef .tc main_v36) = (insAtVal V).y1 := by rw [startVal_eq]; after_reads_simp; refine padded_congr ?_ ?_ <;> after_reads_simp <;> rfl
theorem start_ar : startVal V (Proc.devRef .tc main_v50) = (insAtVal V).ar := by rw [startVal_eq]; after_reads_simp; refine padded_congr ?_ ?_ <;> after_reads_simp <;> rfl
theorem start_sc : startVal V (Proc.devRef .tc main_v60) = (insAtVal V).sc := by rw [startVal_eq]; after_reads_simp; refine padded_congr ?_ ?_ <;> after_reads_simp <;> rfl
theorem start_hu : startVal V (Proc.devRef .tc main_v73) = (insAtVal V).hu := by rw [startVal_eq]; after_reads_simp; refine padded_congr ?_ ?_ <;> after_reads_simp <;> rfl
theorem start_pe : startVal V (Proc.devRef .tc main_v76) = (insAtVal V).pe := by rw [startVal_eq]; after_reads_simp; refine padded_congr ?_ ?_ <;> after_reads_simp <;> rfl
theorem start_ox0 : startVal V (Proc.devRef .tc main_v81) = (insAtVal V).ox0 := by rw [startVal_eq]; after_reads_simp; refine padded_congr ?_ ?_ <;> after_reads_simp <;> rfl
theorem start_oy0 : startVal V (Proc.devRef .tc main_v86) = (insAtVal V).oy0 := by rw [startVal_eq]; after_reads_simp; refine padded_congr ?_ ?_ <;> after_reads_simp <;> rfl
theorem start_ox1 : startVal V (Proc.devRef .tc main_v91) = (insAtVal V).ox1 := by rw [startVal_eq]; after_reads_simp; refine padded_congr ?_ ?_ <;> after_reads_simp <;> rfl
theorem start_oy1 : startVal V (Proc.devRef .tc main_v96) = (insAtVal V).oy1 := by rw [startVal_eq]; after_reads_simp; refine padded_congr ?_ ?_ <;> after_reads_simp <;> rfl
theorem start_os : startVal V (Proc.devRef .tc main_v99) = (insAtVal V).os := by rw [startVal_eq]; after_reads_simp; refine padded_congr ?_ ?_ <;> after_reads_simp <;> rfl

/-! ## The lines after the kernel -/

theorem post_res : StableHlo.after hostOps1 V (Proc.devRef .tc main_v117) = resOf (V (Proc.devRef .tc main_arg2)) (V (Proc.devRef .tc main_v100)) := by
  after_reads_simp; rfl

end Reads

end Cert.Proof.PI

end
-- ==== Proof.PI.Order.lean ====
/-
  The order of decreasing scores is a rearrangement of 0 … 4999: its entries, and those of its padded layout, are row
  numbers below 5120.
-/
module

public import proofs.«01_k».proof.Proof.PI.Host
public import Idealize.ShloMosaic.Lib.SortFacts
public import Idealize.ShloMosaic.Lib.Pointwise

@[expose] public section

noncomputable section

namespace Cert.Proof.PI

open Cert.KernelIdeal Cert.KernelIdeal.Gen
open Idealize.ShloMosaic Idealize.ShloMosaic.TcCoe

variable {F : FTy → Type} [FloatOps F]

/-- "Sorts before" on positions, by their scores. -/
def beforeOf (S : FVec F S5000 .f32) (k k' : Fin 5000) : Bool :=
  comparator_f32_i32_d0 (Host.negf S (ix1 k), BitVec.ofNat 32 k.val) (Host.negf S (ix1 k'), BitVec.ofNat 32 k'.val) == 1#1

theorem along_ix1 (j : S5000.Idx) (k : Fin 5000) : j.along 0 k = (ix1 k : S5000.Idx) := by
  funext a
  match a with
  | ⟨0, _⟩ => exact Function.update_self _ _ _

/-- The entry of the order at a position: the position sorted there. -/
theorem orderOf_at (S : FVec F S5000 .f32) (i : Fin 5000) :
    orderOf S (ix1 i) = BitVec.ofNat 32 (sortedFrom (beforeOf S) i).val := by
  have e : sortedFrom (beforeOf S) = sortedFrom (fun k k' : Fin 5000 =>
      comparator_f32_i32_d0 (Host.negf S ((ix1 i : S5000.Idx).along 0 k), iotaInDim S5000 32 0 ((ix1 i : S5000.Idx).along 0 k))
        (Host.negf S ((ix1 i : S5000.Idx).along 0 k'), iotaInDim S5000 32 0 ((ix1 i : S5000.Idx).along 0 k')) == 1#1) := by
    refine congrArg sortedFrom ?_
    funext k k'
    rw [along_ix1, along_ix1]
    rfl
  rw [e]
  unfold orderOf Host.sort2
  rw [dif_pos (show 0 < S5000.rank from Nat.zero_lt_one)]
  exact (congrArg (iotaInDim S5000 32 0) (along_ix1 (ix1 i) _)).trans rfl

theorem orderOf_lt (S : FVec F S5000 .f32) (i : S5000.Idx) : (orderOf S i).toNat < 5000 := by
  obtain ⟨k, rfl⟩ : ∃ k : Fin 5000, i = ix1 k := ⟨i 0, eq_ix1 i⟩
  rw [orderOf_at, BitVec.toNat_ofNat, Nat.mod_eq_of_lt (lt_trans (Fin.isLt _) (by decide))]
  exact Fin.isLt _

/-- Reading a padded vector. -/
theorem padded_at {α : Type} (x : S5000.Idx → α) (z : S_.Idx → α) (r : Fin 40) (l : Fin 128) :
    padded x z (ix2 r l) = if h : r.val * 128 + l.val < 5000 then x (ix1 ⟨r.val * 128 + l.val, h⟩) else z ix0 := by
  unfold padded
  simp only [pointwise]

theorem pe_lt (B : FVec F S5000x4 .f32) (S : FVec F S5000 .f32) (L : IVec S5000 32) (i : S40x128.Idx) :
    ((insOf B S L).pe i).toNat < 5120 := by
  obtain ⟨r, l, rfl⟩ : ∃ (r : Fin 40) (l : Fin 128), i = ix2 r l := ⟨i 0, i 1, eq_ix2 i⟩
  show (padded (orderOf S) (constantI S_ 32 0#32) _).toNat < 5120
  rw [padded_at]
  split
  · exact lt_trans (orderOf_lt S _) (by decide)
  · exact (by decide : (0#32).toNat < 5120)

end Cert.Proof.PI

end
-- ==== Proof.PI.Run.lean ====
/-
  The run of the program: the launch's one point meets its obligation by the body's specification, so every run ends with
  the arguments unchanged, the result as `resOf` has it and every counter at zero. For every choice of float values.
-/
module

public import proofs.«01_k».proof.Proof.PI.Body
public import proofs.«01_k».proof.Proof.PI.Lanes
public import proofs.«01_k».proof.Proof.PI.Order
public import proofs.«01_k».proof.Proof.Gen.KernelIdeal.Points
public import Idealize.ShloMosaic.Lib.Pipeline.FrameSuffix
public import Idealize.ShloMosaic.Lib.Pipeline.Value

@[expose] public section

noncomputable section

namespace Cert.Proof.PI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR nD τ) ℕ

/-! ## The point -/

omit [FloatOps F] in
/-- A window over the whole array puts each element where the array has it. -/
theorem emb_self (w : Window sig grid0) (t : Fin grid0.N) (h : ∀ a, w.index t a = 0) (y : (w.xblock (grid0.coords t)).Idx) (z : w.shape.Idx)
    (hz : ∀ a, (z a).val = (y a).val) : (w.rect t).emb y = z :=
  funext fun a => Fin.ext ((w.rect_emb_val_of_index_zero t a (h a) y).trans (hz a).symm)

section Point
variable (V : Dev nD → Valuation τ sig (Elt F)) (X : Dev nD → Ins F)

/-- What the staging buffers hold after the point: the operands as they were, the result computed. -/
def afterAt (c : Dev nD) : (w : Fin 14) → ((cfg0 (F := F)).win w).block.Idx → Elt F ((cfg0 (F := F)).win w).elt
  | 0 => (X c).x0
  | 1 => (X c).y0
  | 2 => (X c).x1
  | 3 => (X c).y1
  | 4 => (X c).ar
  | 5 => (X c).sc
  | 6 => (X c).hu
  | 7 => (X c).pe
  | 8 => (X c).ox0
  | 9 => (X c).oy0
  | 10 => (X c).ox1
  | 11 => (X c).oy1
  | 12 => (X c).os
  | 13 => outAll (X c)

/-- The launch's data, for arrays that start at `V`. -/
def dats (p : Fin 1) (c : Dev nD) : Dat τ (Elt F) Unit ℕ (UR nD τ) ℕ (cfgs (F := F) p) c :=
  match p with
  | 0 =>
    { A := fun w => V c (Proc.devRef .tc (Pipeline.arrRef spec0 w))
      after := fun w _ => afterAt X c w
      Φ := fun _ => Pipeline.ΦA spec0 c
      q := fun _ => fullShare
      owed := fun _ => 0 }

theorem share_eq (c : Dev nD) (w : Fin (cfg0 (F := F)).W) : (dats V X 0 c).share w = fullShare := by
  unfold Dat.share; split <;> rfl

/-- The operands' arrays on a core, at the contents the kernel's operands have. -/
structure Starts (c : Dev nD) : Prop where
  x0 : V c (Proc.devRef .tc main_v21) = (X c).x0
  y0 : V c (Proc.devRef .tc main_v26) = (X c).y0
  x1 : V c (Proc.devRef .tc main_v31) = (X c).x1
  y1 : V c (Proc.devRef .tc main_v36) = (X c).y1
  ar : V c (Proc.devRef .tc main_v50) = (X c).ar
  sc : V c (Proc.devRef .tc main_v60) = (X c).sc
  hu : V c (Proc.devRef .tc main_v73) = (X c).hu
  pe : V c (Proc.devRef .tc main_v76) = (X c).pe
  ox0 : V c (Proc.devRef .tc main_v81) = (X c).ox0
  oy0 : V c (Proc.devRef .tc main_v86) = (X c).oy0
  ox1 : V c (Proc.devRef .tc main_v91) = (X c).ox1
  oy1 : V c (Proc.devRef .tc main_v96) = (X c).oy1
  os : V c (Proc.devRef .tc main_v99) = (X c).os

/-- An operand's staging buffer, fetched whole, holds its array. -/
theorem before_0 {c : Dev nD} (h : Starts V X c) (d) : (dats V X 0 c).before 0 t0_0 d = (X c).x0 := by
  unfold Dat.before; rw [if_pos (fetch0_0 t0_0)]; exact Eq.trans (b := V c (Proc.devRef .tc main_v21))
    (funext fun y => congrArg (V c (Proc.devRef .tc main_v21)) (emb_self win0_0 t0_0 (fun _ => rfl) y y fun _ => rfl)) h.x0
theorem before_1 {c : Dev nD} (h : Starts V X c) (d) : (dats V X 0 c).before 1 t0_0 d = (X c).y0 := by
  unfold Dat.before; rw [if_pos (fetch0_1 t0_0)]; exact Eq.trans (b := V c (Proc.devRef .tc main_v26))
    (funext fun y => congrArg (V c (Proc.devRef .tc main_v26)) (emb_self win0_1 t0_0 (fun _ => rfl) y y fun _ => rfl)) h.y0
theorem before_2 {c : Dev nD} (h : Starts V X c) (d) : (dats V X 0 c).before 2 t0_0 d = (X c).x1 := by
  unfold Dat.before; rw [if_pos (fetch0_2 t0_0)]; exact Eq.trans (b := V c (Proc.devRef .tc main_v31))
    (funext fun y => congrArg (V c (Proc.devRef .tc main_v31)) (emb_self win0_2 t0_0 (fun _ => rfl) y y fun _ => rfl)) h.x1
theorem before_3 {c : Dev nD} (h : Starts V X c) (d) : (dats V X 0 c).before 3 t0_0 d = (X c).y1 := by
  unfold Dat.before; rw [if_pos (fetch0_3 t0_0)]; exact Eq.trans (b := V c (Proc.devRef .tc main_v36))
    (funext fun y => congrArg (V c (Proc.devRef .tc main_v36)) (emb_self win0_3 t0_0 (fun _ => rfl) y y fun _ => rfl)) h.y1
theorem before_4 {c : Dev nD} (h : Starts V X c) (d) : (dats V X 0 c).before 4 t0_0 d = (X c).ar := by
  unfold Dat.before; rw [if_pos (fetch0_4 t0_0)]; exact Eq.trans (b := V c (Proc.devRef .tc main_v50))
    (funext fun y => congrArg (V c (Proc.devRef .tc main_v50)) (emb_self win0_4 t0_0 (fun _ => rfl) y y fun _ => rfl)) h.ar
theorem before_5 {c : Dev nD} (h : Starts V X c) (d) : (dats V X 0 c).before 5 t0_0 d = (X c).sc := by
  unfold Dat.before; rw [if_pos (fetch0_5 t0_0)]; exact Eq.trans (b := V c (Proc.devRef .tc main_v60))
    (funext fun y => congrArg (V c (Proc.devRef .tc main_v60)) (emb_self win0_5 t0_0 (fun _ => rfl) y y fun _ => rfl)) h.sc
theorem before_6 {c : Dev nD} (h : Starts V X c) (d) : (dats V X 0 c).before 6 t0_0 d = (X c).hu := by
  unfold Dat.before; rw [if_pos (fetch0_6 t0_0)]; exact Eq.trans (b := V c (Proc.devRef .tc main_v73))
    (funext fun y => congrArg (V c (Proc.devRef .tc main_v73)) (emb_self win0_6 t0_0 (fun _ => rfl) y y fun _ => rfl)) h.hu
theorem before_7 {c : Dev nD} (h : Starts V X c) (d) : (dats V X 0 c).before 7 t0_0 d = (X c).pe := by
  unfold Dat.before; rw [if_pos (fetch0_7 t0_0)]; exact Eq.trans (b := V c (Proc.devRef .tc main_v76))
    (funext fun y => congrArg (V c (Proc.devRef .tc main_v76)) (emb_self win0_7 t0_0 (fun _ => rfl) y y fun _ => rfl)) h.pe
theorem before_8 {c : Dev nD} (h : Starts V X c) (d) : (dats V X 0 c).before 8 t0_0 d = (X c).ox0 := by
  unfold Dat.before; rw [if_pos (fetch0_8 t0_0)]; exact Eq.trans (b := V c (Proc.devRef .tc main_v81))
    (funext fun y => congrArg (V c (Proc.devRef .tc main_v81)) (emb_self win0_8 t0_0 (fun _ => rfl) y y fun _ => rfl)) h.ox0
theorem before_9 {c : Dev nD} (h : Starts V X c) (d) : (dats V X 0 c).before 9 t0_0 d = (X c).oy0 := by
  unfold Dat.before; rw [if_pos (fetch0_9 t0_0)]; exact Eq.trans (b := V c (Proc.devRef .tc main_v86))
    (funext fun y => congrArg (V c (Proc.devRef .tc main_v86)) (emb_self win0_9 t0_0 (fun _ => rfl) y y fun _ => rfl)) h.oy0
theorem before_10 {c : Dev nD} (h : Starts V X c) (d) : (dats V X 0 c).before 10 t0_0 d = (X c).ox1 := by
  unfold Dat.before; rw [if_pos (fetch0_10 t0_0)]; exact Eq.trans (b := V c (Proc.devRef .tc main_v91))
    (funext fun y => congrArg (V c (Proc.devRef .tc main_v91)) (emb_self win0_10 t0_0 (fun _ => rfl) y y fun _ => rfl)) h.ox1
theorem before_11 {c : Dev nD} (h : Starts V X c) (d) : (dats V X 0 c).before 11 t0_0 d = (X c).oy1 := by
  unfold Dat.before; rw [if_pos (fetch0_11 t0_0)]; exact Eq.trans (b := V c (Proc.devRef .tc main_v96))
    (funext fun y => congrArg (V c (Proc.devRef .tc main_v96)) (emb_self win0_11 t0_0 (fun _ => rfl) y y fun _ => rfl)) h.oy1
theorem before_12 {c : Dev nD} (h : Starts V X c) (d) : (dats V X 0 c).before 12 t0_0 d = (X c).os := by
  unfold Dat.before; rw [if_pos (fetch0_12 t0_0)]; exact Eq.trans (b := V c (Proc.devRef .tc main_v99))
    (funext fun y => congrArg (V c (Proc.devRef .tc main_v99)) (emb_self win0_12 t0_0 (fun _ => rfl) y y fun _ => rfl)) h.os

omit [FloatOps F] in
theorem ins_eq (c : Dev nD) (X : Ins F) : ins c X = iprop(held c bX0 X.x0 ∗ held c bY0 X.y0 ∗ held c bX1 X.x1 ∗ held c bY1 X.y1 ∗ held c bAr X.ar ∗ held c bSc X.sc ∗ held c bHu X.hu ∗ held c bPe X.pe ∗ held c bOX0 X.ox0 ∗ held c bOY0 X.oy0 ∗ held c bOX1 X.ox1 ∗ held c bOY1 X.oy1 ∗ held c bOS X.os) :=
  bigSep_univ_eq_bigSepL [(0 : Fin 13), 1, 2, 3, 4, 5, 6, 7, 8, 9, 10, 11, 12] (by decide) (by decide) (insAt c X)

omit [FloatOps F] in
/-- Equal assertions entail one another. -/
theorem by_eq {P Q : sProp 𝕄} (h : P = Q) : P ⊢ Q := by
  subst h
  iintro H; iexact H

omit [FloatOps F] in
/-- A scratch buffer at some contents is its memref held at some, -/
theorem held_of_some (c : Dev nD) (b : Ref sig .tc) : (iprop(∃ f : Buf (Elt F) ((c : Thread nD τ).loc b), ((c : Thread nD τ).loc b) ↦{fullShare} f) : sProp 𝕄)
    ⊢ iprop(∃ f, owns (c : Thread nD τ) (Memref.whole b) fullShare f) := by
  iintro ⟨%f, H⟩; iexists f; rw [owns_whole_eq]; iexists f; isplitr; · ipureintro; rfl
  iexact H

omit [FloatOps F] in
/-- and back. -/
theorem some_of_held (c : Dev nD) (b : Ref sig .tc) (f) : owns (c : Thread nD τ) (Memref.whole b) fullShare f
    ⊢ (iprop(∃ f : Buf (Elt F) ((c : Thread nD τ).loc b), ((c : Thread nD τ).loc b) ↦{fullShare} f) : sProp 𝕄) := by
  rw [owns_whole_eq]; iintro ⟨%f, -, H⟩; iexists f; iexact H

/-- The invariant opened: the scratch buffers and the generator register, -/
theorem phi_open (c : Dev nD) (t) : (dats V X 0 c).Φ t ⊢ (iprop(((∃ f, held c bKeep f) ∗ (∃ f, held c bSelH f) ∗ (∃ f, held c bSelO f)) ∗ ∃ r, prngReg c r) : sProp 𝕄) := by
  show Pipeline.ΦA spec0 c ⊢ _
  unfold Pipeline.ΦA
  rw [scopedRest0_eq]
  iintro ⟨⟨Hk, Ha, Hb⟩, Hr⟩
  isplitr [Hr]
  · isplitl [Hk]; · iapply (held_of_some c cc0_scratch0); iexact Hk
    isplitl [Ha]; · iapply (held_of_some c cc0_scratch1); iexact Ha
    iapply (held_of_some c cc0_scratch2); iexact Hb
  iexact Hr

/-- and closed. -/
theorem phi_close (c : Dev nD) (t) : (iprop(((∃ f, held c bKeep f) ∗ (∃ f, held c bSelH f) ∗ (∃ f, held c bSelO f)) ∗ ∃ r, prngReg c r) : sProp 𝕄) ⊢ (dats V X 0 c).Φ t := by
  show _ ⊢ Pipeline.ΦA spec0 c
  unfold Pipeline.ΦA
  rw [scopedRest0_eq]
  iintro ⟨⟨⟨%k, Hk⟩, ⟨%a, Ha⟩, ⟨%b, Hb⟩⟩, Hr⟩
  isplitr [Hr]
  · isplitl [Hk]; · iapply (some_of_held c cc0_scratch0); iexact Hk
    isplitl [Ha]; · iapply (some_of_held c cc0_scratch1); iexact Ha
    iapply (some_of_held c cc0_scratch2); iexact Hb
  iexact Hr

/-- The point meets its obligation. -/
theorem body_obligation (c : Dev nD) (h : Starts V X c) (hp : ∀ i, ((X c).pe i).toNat < 5120) :
    BodyObligation (dats V X 0 c) (defs₀ (F := F)) 𝒱₀ () Set.univ := fun t => by
  rw [fin_N0 t, bigSep_W0, bigSep_W0]
  show _ ⊢ wp frame (wpE (defs₀ (F := F)) 𝒱₀ (c : Thread nD τ) none) Set.univ (cc0__body (F := F) bX0 (Memref.isWhole_whole _) bY0 (Memref.isWhole_whole _) bX1 (Memref.isWhole_whole _) bY1 (Memref.isWhole_whole _) bAr (Memref.isWhole_whole _)
    bSc (Memref.isWhole_whole _) bHu (Memref.isWhole_whole _) bPe (Memref.isWhole_whole _) bOX0 (Memref.isWhole_whole _) bOY0 (Memref.isWhole_whole _) bOX1 (Memref.isWhole_whole _) bOY1 (Memref.isWhole_whole _) bOS (Memref.isWhole_whole _)
    bOut (Memref.isWhole_whole _) bKeep (Memref.isWhole_whole _) bSelH (Memref.isWhole_whole _) bSelO (Memref.isWhole_whole _)) _
  rw [body_eq]
  refine (?_ : ∀ K : PUnit → sProp 𝕄, (iprop((dats V X 0 c).Φ t0_0.succ ∗ (dats V X 0 c).owesAt () t0_0.succ
    ∗ held c bX0 (X c).x0 ∗ held c bY0 (X c).y0 ∗ held c bX1 (X c).x1 ∗ held c bY1 (X c).y1 ∗ held c bAr (X c).ar ∗ held c bSc (X c).sc ∗ held c bHu (X c).hu ∗ held c bPe (X c).pe ∗ held c bOX0 (X c).ox0 ∗ held c bOY0 (X c).oy0 ∗ held c bOX1 (X c).ox1 ∗ held c bOY1 (X c).oy1 ∗ held c bOS (X c).os
    ∗ held c bOut (outAll (X c))) ⊢ K ⟨⟩) → (_ ⊢ wp frame (wpE (defs₀ (F := F)) 𝒱₀ (c : Thread nD τ) none) Set.univ kernelBody K)) _ ?_
  swap
  · iintro ⟨HΦ, Ho, H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  intro K hK
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_0 V X h d0, before_1 V X h d1, before_2 V X h d2, before_3 V X h d3, before_4 V X h d4, before_5 V X h d5, before_6 V X h d6, before_7 V X h d7, before_8 V X h d8, before_9 V X h d9, before_10 V X h d10, before_11 V X h d11, before_12 V X h d12]
  ihave HΦ := (phi_open V X c t0_0.castSucc) $$ HΦ
  icases HΦ with ⟨⟨⟨%k, Hk⟩, ⟨%a, Ha⟩, ⟨%b, Hb⟩⟩, Hr⟩
  have hb := wp_kernel c (X c) (listH_lt (X c) hp) (listO_lt (X c) hp) ⟨k, a, b⟩ ((dats V X 0 c).before 13 t0_0 d13) K
  iapply hb $$ [H0 H1 H2 H3 H4 H5 H6 H7 H8 H9 H10 H11 H12 H13 Hk Ha Hb]
  · isplitl [H0 H1 H2 H3 H4 H5 H6 H7 H8 H9 H10 H11 H12]
    · rw [ins_eq]
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [Hk Ha Hb]
    · rw [show scr c (⟨k, a, b⟩ : Scr F) = iprop(held c bKeep k ∗ held c bSelH a ∗ held c bSelO b) from rfl]
      isplitl [Hk]; · iexact Hk
      isplitl [Ha]; · iexact Ha
      iexact Hb
    iexact H13
  iintro ⟨Hi, ⟨%s, Hs⟩, H13⟩
  ihave Hi := (by_eq (ins_eq c (X c))) $$ Hi
  ihave Hs := (by_eq (show scr c s = iprop(held c bKeep s.keep ∗ held c bSelH s.selH ∗ held c bSelO s.selO) from rfl)) $$ Hs
  icases Hs with ⟨Hk, Ha, Hb⟩
  icases Hi with ⟨H0, H1, H2, H3, H4, H5, H6, H7, H8, H9, H10, H11, H12⟩
  iapply hK
  isplitl [Hk Ha Hb Hr]
  · iapply (phi_close V X c t0_0.succ)
    isplitl [Hk Ha Hb]
    · isplitl [Hk]; · iexists _; iexact Hk
      isplitl [Ha]; · iexists _; iexact Ha
      iexists _; iexact Hb
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Point

/-! ## The run -/

section Run
variable (m : (ℓ : Loc nD τ sig) → Buf (Elt F) ℓ) (ρ : Dev nD → PrngReg)

/-- The contents on a core when the kernel starts. -/
def V0 (c : Dev nD) : Valuation τ sig (Elt F) := startVal (fun b => m (c, b))

/-- The kernel's operands on a core. -/
def opsOf (c : Dev nD) : Ins F := insAtVal (fun b => m (c, b))

theorem starts (c : Dev nD) : Starts (V0 m) (opsOf m) c := by
  unfold V0 opsOf
  constructor
  · exact start_x0 (fun b => m (c, b))
  · exact start_y0 (fun b => m (c, b))
  · exact start_x1 (fun b => m (c, b))
  · exact start_y1 (fun b => m (c, b))
  · exact start_ar (fun b => m (c, b))
  · exact start_sc (fun b => m (c, b))
  · exact start_hu (fun b => m (c, b))
  · exact start_pe (fun b => m (c, b))
  · exact start_ox0 (fun b => m (c, b))
  · exact start_oy0 (fun b => m (c, b))
  · exact start_ox1 (fun b => m (c, b))
  · exact start_oy1 (fun b => m (c, b))
  · exact start_os (fun b => m (c, b))

theorem bounded (c : Dev nD) (i : S40x128.Idx) : ((opsOf m c).pe i).toNat < 5120 := pe_lt _ _ _ i

theorem hmain : Pipeline.HMainK (Ix := Unit) (Name := ℕ) (U := UR nD τ) (Lvl := ℕ) cfgs 0 defs₀ 𝒱₀ m (main (F := F))
    (fun c b => V0 m c (Proc.devRef .tc b)) (fun _ => Pipeline.chain ([hostOps1].map StableHlo.seq)) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨pre0_fresh, pre1_fresh, pre2_fresh⟩) main_chain

omit [FloatOps F] in
/-- The lines after the kernel touch only what they may, -/
theorem sfx_sub [FloatOps F] : ∀ ops ∈ [(hostOps1 : List (HloOp τ sig (Elt F)))], ∀ op ∈ ops, op.bufs ⊆ Pipeline.tailRefs sig Pipeline.Prefetch.none spec0 := by
  rw [Pipeline.tailRefs_none spec0 winFacts0.arr_unscoped]
  intro ops hops op hop
  simp only [List.mem_cons, List.mem_nil_iff, or_false] at hops
  rcases hops with rfl
  exact Pipeline.sub_ucRefs op ((List.forall_iff_forall_mem.mp hostOps1_sub) op hop)

/-- allocate nothing, -/
theorem sfx_fresh : ∀ ops ∈ [(hostOps1 : List (HloOp τ sig (Elt F)))], ∀ op ∈ ops, op.fresh = ∅ := by
  intro ops hops op hop
  simp only [List.mem_cons, List.mem_nil_iff, or_false] at hops
  rcases hops with rfl
  exact (List.forall_iff_forall_mem.mp post_fresh) op hop

/-- and leave the kernel's arrays alone. -/
theorem sfx_keeps : ∀ ops ∈ [(hostOps1 : List (HloOp τ sig (Elt F)))], ∀ op ∈ ops, ∀ w, Proc.devRef .tc (Pipeline.arrRef spec0 w) ∉ op.writes := by
  intro ops hops op hop
  simp only [List.mem_cons, List.mem_nil_iff, or_false] at hops
  rcases hops with rfl
  intro w hb
  obtain ⟨y, hy, he⟩ := List.mem_map.mp (List.mem_toFinset.mp ((List.forall_iff_forall_mem.mp post_writes) op hop hb))
  exact (by decide +kernel : ∀ w, Pipeline.arrRef spec0 w ∉ postW) w (Proc.devRef_injective _ he ▸ hy)

/-- The kernel's result array after the launch. -/
theorem result_arr (c : Dev nD) : (dats (V0 m) (opsOf m) 0 c).arrAt 13 (cfg0 (F := F)).N = outAll (opsOf m c) := by
  rw [show (cfg0 (F := F)).N = (t0_0 : Fin (cfg0 (F := F)).N).val + 1 from rfl, (dats (V0 m) (opsOf m) 0 c).arrAt_succ (13 : Fin 14) t0_0]
  refine (if_pos (flush0_13 t0_0)).trans ?_
  funext i
  refine (congrArg _ (emb_self win0_13 t0_0 (fun _ => rfl) i i fun _ => rfl).symm).trans ?_
  refine (View.write_emb _ _ _ _).trans ?_
  exact (if_pos (Finset.mem_univ _)).trans rfl

/-- The contents of an unscoped buffer that is no array of the kernel's, at the end. -/
abbrev W (c : Dev nD) (b : Ref sig .tc) := Pipeline.afterTail₀ cfgs (dats (V0 m) (opsOf m)) 0 (V0 m) [hostOps1] c b

theorem W_keep (c : Dev nD) (b : Ref sig .tc) (hb : b ∉ postW) (ha : ∀ w, Pipeline.arrRef spec0 w ≠ b) :
    W m c b = V0 m c (Proc.devRef .tc b) := by
  unfold W Pipeline.afterTail₀
  rw [List.flatten_cons, List.flatten_nil, List.append_nil, StableHlo.after_of_writes_sub (r := b) hostOps1 _ post_writes hb,
    Pipeline.withArrays_of_ne _ c (V0 m c) _ b ha]

theorem W_res (c : Dev nD) : W m c main_v117 = resOf (m (c, Proc.devRef .tc main_arg2)) (outAll (opsOf m c)) := by
  unfold W Pipeline.afterTail₀
  rw [List.flatten_cons, List.flatten_nil, List.append_nil, post_res]
  refine congr_arg₂ resOf ?_ ?_
  · refine (Pipeline.withArrays_of_ne spec0 c (V0 m c) _ main_arg2 (by exact (by decide +kernel : ∀ w, Pipeline.arrRef spec0 w ≠ main_arg2))).trans ?_
    exact start_arg2 _
  · refine (Pipeline.withArrays_arr spec0 winFacts0.arr_inj c (V0 m c) (fun w => (dats (V0 m) (opsOf m) 0 c).arrAt w (cfg0 (F := F)).N) (13 : Fin 14)).trans ?_
    exact result_arr m c

/-- A buffer no line writes and no array of the kernel's is the rest's. -/
theorem mem_rest {b : Ref sig .tc} (hs : b.isScoped = false) (ha : ∀ w, Pipeline.arrRef spec0 w ≠ b) : b ∈ Pipeline.restRefs sig spec0 := by
  unfold Pipeline.restRefs
  simp only [Finset.mem_sdiff, Finset.mem_filter, Finset.mem_univ, true_and, Finset.mem_image, not_exists]
  exact ⟨by simp [hs], ha⟩

/-- What a run ends with. -/
def Ends (r : PUnit × MemSt nD τ sig (Elt F)) : Prop :=
  (∀ c : Dev nD, r.2.mem ((c : Thread nD τ).loc main_v117) = resOf (m ((c : Thread nD τ).loc main_arg2))
      (outAll (insOf (m ((c : Thread nD τ).loc main_arg0)) (m ((c : Thread nD τ).loc main_arg1)) (m ((c : Thread nD τ).loc main_arg3))))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

theorem ends_of (r : PUnit × MemSt nD τ sig (Elt F))
    (h : Pipeline.FramePost cfgs (dats (V0 m) (opsOf m)) 0 (fun c b => W m c b) r ∧ r.2.sem = fun _ => 0) : Ends m r := by
  refine ⟨fun c => ⟨?_, ?_, ?_, ?_, ?_⟩, h.2⟩
  · exact ((h.1 c).2 main_v117 (mem_rest rfl (by decide +kernel))).trans (W_res m c)
  · exact ((h.1 c).2 main_arg0 (mem_rest rfl (by decide +kernel))).trans ((W_keep m c main_arg0 (by decide +kernel) (by decide +kernel)).trans (start_arg0 _))
  · exact ((h.1 c).2 main_arg1 (mem_rest rfl (by decide +kernel))).trans ((W_keep m c main_arg1 (by decide +kernel) (by decide +kernel)).trans (start_arg1 _))
  · exact ((h.1 c).2 main_arg2 (mem_rest rfl (by decide +kernel))).trans ((W_keep m c main_arg2 (by decide +kernel) (by decide +kernel)).trans (start_arg2 _))
  · exact ((h.1 c).2 main_arg3 (mem_rest rfl (by decide +kernel))).trans ((W_keep m c main_arg3 (by decide +kernel) (by decide +kernel)).trans (start_arg3 _))

/-- Every run ends so. -/
theorem run : θ_run defs (onTc (τ := τ) (main (F := F))) ⟨m, fun _ => 0, ρ⟩ (Ends m) := by
  have hbody : ∀ c, BodyObligationLoose (dats (V0 m) (opsOf m) 0 c) defs₀ 𝒱₀ () Set.univ :=
    fun c => (body_obligation (V0 m) (opsOf m) c (starts m c) (bounded m c)).loose
  have hA : ∀ c w, (dats (V0 m) (opsOf m) 0 c).A w = V0 m c (Proc.devRef .tc (Pipeline.arrRef spec0 w)) := fun _ _ => rfl
  have hΦ : ∀ c t, (dats (V0 m) (opsOf m) 0 c).Φ t = Pipeline.ΦA spec0 c := fun _ _ => rfl
  have ho : ∀ c t, (dats (V0 m) (opsOf m) 0 c).owed t = 0 := fun _ _ => rfl
  have hs := share_eq (V0 m) (opsOf m)
  have hm := hmain m
  have hQ := ends_of m
  unfold W at hQ
  generalize dats (V0 m) (opsOf m) = D at *
  generalize V0 m = V at *
  refine Pipeline.θ_run_frame_around cfgs D (0 : Fin 1) launch0 defs₀ 𝒱₀ m ρ main
    hbody hs ho V [hostOps1] sfx_sub sfx_fresh sfx_keeps ?_ hA hΦ (Ends m) hQ
  clear hbody hA hΦ hs ho hQ
  unfold Pipeline.HMainK Pipeline.HMainPK at *
  intro c Q
  convert hm c Q using 1

end Run

end Cert.Proof.PI

end
-- ==== Proof.RI.Frame.lean ====
/- The reference's run: it ends with its buffers at the contents the generated value module gives, so its arguments
   are unchanged and its counters are zero. -/
module

public import proofs.«01_k».proof.Proof.Gen.ReferenceIdeal.Run
public import proofs.«01_k».proof.Proof.Gen.ReferenceIdeal

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-! ## What the lines write -/

abbrev post5_W : List (Ref sig .tc) := [main_c_7, main_v72, main_c_8, main_v73, main_v74, main_c_9, main_v75, main_v76, main_v77, main_v78, main_v79, main_cst_10, main_v80, main_v81, main_v82, main_c_11, main_v83, main_v84, main_v85, main_cst_12]
theorem post5_writes : (hostOps0_5 : List (HloOp τ sig (Elt F))).Forall fun op => op.writes ⊆ (post5_W.map (Proc.devRef (τ := τ) .tc)).toFinset :=
  forall_writes_sub_of_map rfl

abbrev post6_W : List (Ref sig .tc) := [main_call2_v0, main_call2_v1, main_v86]
theorem post6_writes : (hostOps0_6 : List (HloOp τ sig (Elt F))).Forall fun op => op.writes ⊆ (post6_W.map (Proc.devRef (τ := τ) .tc)).toFinset :=
  forall_writes_sub_of_map rfl

abbrev post7_W : List (Ref sig .tc) := [main_v87, main_v88, main_cst_13]
theorem post7_writes : (hostOps0_7 : List (HloOp τ sig (Elt F))).Forall fun op => op.writes ⊆ (post7_W.map (Proc.devRef (τ := τ) .tc)).toFinset :=
  forall_writes_sub_of_map rfl

abbrev post8_W : List (Ref sig .tc) := [main_call3_v0, main_call3_v1, main_v89]
theorem post8_writes : (hostOps0_8 : List (HloOp τ sig (Elt F))).Forall fun op => op.writes ⊆ (post8_W.map (Proc.devRef (τ := τ) .tc)).toFinset :=
  forall_writes_sub_of_map rfl

abbrev post9_W : List (Ref sig .tc) := [main_values, main_indices, main_values_14, main_indices_15, main_v90, main_c_16, main_v91, main_v92, main_c_17, main_v93, main_v94, main_v95, main_v96, main_v97, main_c_18, main_v98, main_v99, main_c_19, main_v100, main_v101, main_v102, main_v103, main_v104, main_c_20, main_v105, main_v106, main_c_21, main_v107, main_v108, main_v109, main_v110, main_v111, main_v112, main_v113, main_cst_22, main_v114, main_v115, main_cst_23, main_v116, main_v117, main_v118, main_v119, main_v120, main_v121]
theorem post9_writes : (hostOps0_9 : List (HloOp τ sig (Elt F))).Forall fun op => op.writes ⊆ (post9_W.map (Proc.devRef (τ := τ) .tc)).toFinset :=
  forall_writes_sub_of_map rfl

section Run
variable (m : (ℓ : Loc nD τ sig) → Buf (Elt F) ℓ) (ρ : Dev nD → PrngReg)

/-- A buffer no line of the first part writes. -/
abbrev Unwritten (b : Ref sig .tc) : Prop :=
  b ∉ hostOps0_W ∧ b ∉ hostOps0_1_W ∧ b ∉ hostOps0_2_W ∧ b ∉ hostOps0_3_W ∧ b ∉ hostOps0_4_W ∧ b ∉ condOps_W ∧ b ∉ while0Ops0_W
    ∧ b ∉ post5_W ∧ b ∉ post6_W ∧ b ∉ post7_W ∧ b ∉ post8_W ∧ b ∉ post9_W

/-- A buffer the loop does not write is after any number of trips what it was at the entry. -/
theorem atTrip_keep {b : Ref sig .tc} (hc : b ∉ condOps_W) (hb : b ∉ while0Ops0_W) (W₀ : Dev nD → Valuation τ sig (Elt F)) (c : Dev nD) :
    ∀ k, atTrip condOps bodyI W₀ k c (Proc.devRef .tc b) = W₀ c (Proc.devRef .tc b)
  | 0 => rfl
  | k + 1 => by
    rw [atTrip_succ, afterL_cons, afterL_nil, after_of_writes_sub while0Ops0 _ while0Ops0_writes hb,
      after_of_writes_sub condOps _ condOps_writes hc, atTrip_keep hc hb W₀ c k]

/-- A buffer no line writes is unchanged. -/
theorem final_keep {b : Ref sig .tc} (h : Unwritten b) (c : Dev nD) :
    finalContents condOps preI bodyI postI 5000 m c (Proc.devRef .tc b) = m (c, Proc.devRef .tc b) := by
  obtain ⟨h0, h1, h2, h3, h4, hc, hw, h5, h6, h7, h8, h9⟩ := h
  simp only [finalContents, afterL_cons, afterL_nil]
  rw [after_of_writes_sub hostOps0_9 _ post9_writes h9, after_of_writes_sub hostOps0_8 _ post8_writes h8,
    after_of_writes_sub hostOps0_7 _ post7_writes h7, after_of_writes_sub hostOps0_6 _ post6_writes h6,
    after_of_writes_sub hostOps0_5 _ post5_writes h5, after_of_writes_sub condOps _ condOps_writes hc, atTrip_keep hc hw]
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- What a run ends with: the result's final contents, the arguments as they were, no counter left. -/
def Ends (r : PUnit × MemSt nD τ sig (Elt F)) : Prop :=
  (∀ c : Dev nD, r.2.mem ((c.tc : Thread nD τ).loc main_v121) = finalContents condOps preI bodyI postI 5000 m c (Proc.devRef .tc main_v121)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

theorem run : θ_run (defs (F := F)) (onTc (τ := τ) (main (F := F))) ⟨m, fun _ => 0, ρ⟩ (Ends m) :=
  (θ_run defs _ _).mono (fun r h => ⟨fun c => ⟨h c main_v121 rfl,
      (h c main_arg0 rfl).trans (final_keep m (by decide +kernel) c),
      (h c main_arg1 rfl).trans (final_keep m (by decide +kernel) c),
      (h c main_arg2 rfl).trans (final_keep m (by decide +kernel) c),
      (h c main_arg3 rfl).trans (final_keep m (by decide +kernel) c)⟩,
    sem_eq_zero_of_no_sems (by decide) r.2⟩) (run_fold m ρ)

end Run

end Cert.Proof.RI

end
-- ==== Proof.RI.Lines.lean ====
/-
  The reference's lines read as functions: the boxes in decreasing order of score and their pairwise overlaps before the loop,
  and, after it, the two lists of picks and the assembled rows.
-/
module

public import proofs.«01_k».proof.Proof.RI.Frame
public import proofs.«01_k».proof.Proof.PI.Order

@[expose] public section

noncomputable section

namespace Cert.Proof.RI

open Cert.ReferenceIdeal Cert.ReferenceIdeal.Gen Cert.ReferenceIdeal.Value
open Idealize.ShloMosaic Idealize.ShloMosaic.TcCoe Idealize.ShloMosaic.StableHlo

variable {F : FTy → Type} [FloatOps F]

/-! ## The overlaps -/

/-- Two columns of the table, read by the first position and by the second. -/
def byFirst (M : FVec F S5000x2 .f32) : FVec F S5000x5000x2 .f32 :=
  broadcastInDim S5000x5000x2 ![0, 1, 2] bcast_S5000x1x2_S5000x5000x2_0_1_2 (broadcastInDim S5000x1x2 ![0, 2] bcast_S5000x2_S5000x1x2_0_2 M)
def bySecond (M : FVec F S5000x2 .f32) : FVec F S5000x5000x2 .f32 :=
  broadcastInDim S5000x5000x2 ![0, 1, 2] bcast_S1x5000x2_S5000x5000x2_0_1_2 (broadcastInDim S1x5000x2 ![1, 2] bcast_S5000x2_S1x5000x2_1_2 M)

/-- The signed side lengths of the common part of two boxes. -/
def spanOf (M : FVec F S5000x4 .f32) : FVec F S5000x5000x2 .f32 :=
  subf (minimumf (byFirst (extractStridedSlice S5000x2 ![0, 2] M slices_S5000x4_S5000x2_0_2)) (bySecond (extractStridedSlice S5000x2 ![0, 2] M slices_S5000x4_S5000x2_0_2)))
    (maximumf (byFirst (extractStridedSlice S5000x2 ![0, 0] M slices_S5000x4_S5000x2_0_0)) (bySecond (extractStridedSlice S5000x2 ![0, 0] M slices_S5000x4_S5000x2_0_0)))

/-- No less than zero. -/
def clipOf (D : FVec F S5000x5000x2 .f32) : FVec F S5000x5000x2 .f32 :=
  maximumf (broadcastInDim S5000x5000x2 ![] bcast_S_S5000x5000x2 (constant S_ .f32 0x00000000#32)) D

/-- The areas. -/
def areaOf (M : FVec F S5000x4 .f32) : FVec F S5000 .f32 :=
  mulf (subf (PI.col2 M) (PI.col0 M)) (subf (PI.col3 M) (PI.col1 M))

/-- The common areas. -/
def commonOf (D : FVec F S5000x5000x2 .f32) : FVec F S5000x5000 .f32 :=
  mulf (fun i => shapeCast S5000x5000 (extractStridedSlice S5000x5000x1 ![0, 0, 0] D slices_S5000x5000x2_S5000x5000x1_0_0_0) shapeCasts_S5000x5000x1_S5000x5000 i)
    (fun i => shapeCast S5000x5000 (extractStridedSlice S5000x5000x1 ![0, 0, 1] D slices_S5000x5000x2_S5000x5000x1_0_0_1) shapeCasts_S5000x5000x1_S5000x5000 i)

/-- Common area by total area. -/
def ratioOf (A A' : FVec F S5000 .f32) (D : FVec F S5000x5000x2 .f32) : FVec F S5000x5000 .f32 :=
  Host.divf (commonOf D)
    (addf (subf (addf (broadcastInDim S5000x5000 ![0, 1] bcast_S5000x1_S5000x5000_0_1 (broadcastInDim S5000x1 ![0] bcast_S5000_S5000x1_0 A))
        (broadcastInDim S5000x5000 ![0, 1] bcast_S1x5000_S5000x5000_0_1 (broadcastInDim S1x5000 ![1] bcast_S5000_S1x5000_1 A'))) (commonOf D))
      (broadcastInDim S5000x5000 ![] bcast_S_S5000x5000 (constant S_ .f32 0x3089705F#32)))

/-! ## After the loop -/

/-- The kept marks of the order, moved back to the boxes. -/
def placed (o : IVec S5000 32) (K : IVec S5000 1) : IVec S5000 1 :=
  Host.scatter scatter_S5000_S5000x1_S5000_n_0_0_1 (fun _ b => b) (broadcastInDim S5000 ![] bcast_S_S5000 (constantI S_ 1 0#1)) (PI.asRows o) K

/-- The kept boxes with a score above the threshold. -/
def goodOf (S : FVec F S5000 .f32) (P : IVec S5000 1) : IVec S5000 1 :=
  andi P (cmpf .oge S (broadcastInDim S5000 ![] bcast_S_S5000 (constant S_ .f32 0x3E4CCCCD#32)))

def humOf (L : IVec S5000 32) : IVec S5000 1 := cmpi .eq L (broadcastInDim S5000 ![] bcast_S_S5000 (constantI S_ 32 0#32))

/-- The scores where marked, else the least value. -/
def maskedOf (S : FVec F S5000 .f32) (P : IVec S5000 1) : FVec F S5000 .f32 :=
  select P S (broadcastInDim S5000 ![] bcast_S_S5000 (id (constant S_ .f32 0xFF800000#32)))

/-- The 15 best. -/
def bestOf (M : FVec F S5000 .f32) : IVec S15 32 := (Host.topK S15 0 (FloatOps.cmpfTotal .gt) M sliceFits_S5000_S15).2

def bothOf (a b : IVec S15 32) : IVec S30 32 := fun i => concatenate S30 0 [⟨S15, a⟩, ⟨S15, b⟩] concatenates_S15_S15_S30_d0 i

/-- Picks as a column of row numbers, a negative one counted from the end. -/
def rows30 (v : IVec S30 32) : IVec S30x1 32 :=
  broadcastInDim S30x1 ![0] bcast_S30_S30x1_0
    (select (cmpi .slt v (broadcastInDim S30 ![] bcast_S_S30 (constantI S_ 32 0#32))) (addi v (broadcastInDim S30 ![] bcast_S_S30 (constantI S_ 32 5000#32))) v)

/-- The squashed scores of the picks. -/
def squashOf (S : FVec F S5000 .f32) (v : IVec S30 32) : FVec F S30 .f32 :=
  Host.divf (broadcastInDim S30 ![] bcast_S_S30 (constant S_ .f32 0x3F800000#32))
    (addf (broadcastInDim S30 ![] bcast_S_S30 (constant S_ .f32 0x3F800000#32))
      (Host.exp (Host.negf (Host.gather gather_S5000_S30x1_S30_n_0_n_n_0_1_1 S (rows30 v)))))

/-- The hidden states of the picks, scaled. -/
def scaledOf (S : FVec F S5000 .f32) (H : FVec F S5000x256 .f32) (v : IVec S30 32) : FVec F S30x256 .f32 :=
  mulf (Host.gather gather_S5000x256_S30x1_S30x256_1_0_n_n_0_1_1256 H (rows30 v))
    (broadcastInDim S30x256 ![0, 1] bcast_S30x1_S30x256_0_1 (broadcastInDim S30x1 ![0] bcast_S30_S30x1_0 (squashOf S v)))

/-- The boxes of the picks. -/
def boxesOf (B : FVec F S5000x4 .f32) (v : IVec S30 32) : FVec F S30x4 .f32 :=
  Host.gather gather_S5000x4_S30x1_S30x4_1_0_n_n_0_1_14 B (rows30 v)

/-- The result's rows. -/
def joined (X : FVec F S30x256 .f32) (Y : FVec F S30x4 .f32) : FVec F S30x260 .f32 :=
  fun i => concatenate S30x260 1 [⟨S30x256, X⟩, ⟨S30x4, Y⟩] concatenates_S30x256_S30x4_S30x260_d1 i

theorem joined_congr {X X' : FVec F S30x256 .f32} {Y Y' : FVec F S30x4 .f32} (h : X = X') (h' : Y = Y') :
    (fun i => concatenate S30x260 1 [⟨S30x256, X⟩, ⟨S30x4, Y⟩] concatenates_S30x256_S30x4_S30x260_d1 i) = joined X' Y' := by
  subst h h'; rfl

theorem bothOf_congr {a a' b b' : IVec S15 32} (h : a = a') (h' : b = b') :
    (fun i => concatenate S30 0 [⟨S15, a⟩, ⟨S15, b⟩] concatenates_S15_S15_S30_d0 i) = bothOf a' b' := by
  subst h h'; rfl

/-! ## The lines -/

section Reads
variable (V : Valuation τ sig (Elt F))

theorem read0_moved : after hostOps0 V (Proc.devRef .tc main_v7) = PI.movedBoxes (V (Proc.devRef .tc main_arg0)) (V (Proc.devRef .tc main_arg3)) := by
  after_reads_simp; rfl
theorem read0_neg : after hostOps0 V (Proc.devRef .tc main_v8) = Host.negf (V (Proc.devRef .tc main_arg1)) := by
  after_reads_simp
theorem read1_order : after hostOps0_1 V (Proc.devRef .tc main_v9)
    = (Host.sort2 S5000 0 comparator_f32_i32_d0 (V (Proc.devRef .tc main_v8)) (iotaInDim S5000 32 0)).2 := by
  after_reads_simp; rfl
theorem read2_area : after hostOps0_2 V (Proc.devRef .tc main_v27)
    = areaOf (Host.gather gather_S5000x4_S5000x1_S5000x4_1_0_n_n_0_1_14 (V (Proc.devRef .tc main_v7)) (PI.asRows (V (Proc.devRef .tc main_v9)))) := by
  after_reads_simp; rfl
theorem read2_area' : after hostOps0_2 V (Proc.devRef .tc main_v38)
    = areaOf (Host.gather gather_S5000x4_S5000x1_S5000x4_1_0_n_n_0_1_14 (V (Proc.devRef .tc main_v7)) (PI.asRows (V (Proc.devRef .tc main_v9)))) := by
  after_reads_simp; rfl
theorem read2_span : after hostOps0_2 V (Proc.devRef .tc main_v53)
    = spanOf (Host.gather gather_S5000x4_S5000x1_S5000x4_1_0_n_n_0_1_14 (V (Proc.devRef .tc main_v7)) (PI.asRows (V (Proc.devRef .tc main_v9)))) := by
  after_reads_simp; rfl
theorem read2_zero : after hostOps0_2 V (Proc.devRef .tc main_cst_2) = constant S_ .f32 0x00000000#32 := by
  after_reads_simp
theorem read3_clip : after hostOps0_3 V (Proc.devRef .tc main_v54)
    = maximumf (broadcastInDim S5000x5000x2 ![] bcast_S_S5000x5000x2 (V (Proc.devRef .tc main_cst_2))) (V (Proc.devRef .tc main_v53)) := by
  after_reads_simp; rfl
theorem read4_ratio : after hostOps0_4 V (Proc.devRef .tc main_v71_0)
    = ratioOf (V (Proc.devRef .tc main_v27)) (V (Proc.devRef .tc main_v38)) (V (Proc.devRef .tc main_v54)) := by
  after_reads_simp; rfl
theorem read4_ids : after hostOps0_4 V (Proc.devRef .tc main_v71_1) = iotaInDim S5000 32 0 := by
  after_reads_simp; rfl
theorem read4_ctr : after hostOps0_4 V (Proc.devRef .tc main_v71_3) = constantI S_ 32 0#32 := by
  after_reads_simp; rfl
theorem read4_keep : after hostOps0_4 V (Proc.devRef .tc main_v71_4) = broadcastInDim S5000 ![] bcast_S_S5000 (constantI S_ 1 0#1) := by
  after_reads_simp; rfl

theorem read5_good : after hostOps0_5 V (Proc.devRef .tc main_v82)
    = goodOf (V (Proc.devRef .tc main_arg1)) (placed (V (Proc.devRef .tc main_v9)) (V (Proc.devRef .tc main_v71_4))) := by
  after_reads_simp; rfl
theorem read5_hum : after hostOps0_5 V (Proc.devRef .tc main_v84) = humOf (V (Proc.devRef .tc main_arg3)) := by
  after_reads_simp; rfl
theorem read5_both : after hostOps0_5 V (Proc.devRef .tc main_v85)
    = andi (goodOf (V (Proc.devRef .tc main_arg1)) (placed (V (Proc.devRef .tc main_v9)) (V (Proc.devRef .tc main_v71_4)))) (humOf (V (Proc.devRef .tc main_arg3))) := by
  after_reads_simp; rfl
theorem read5_low : after hostOps0_5 V (Proc.devRef .tc main_cst_12) = constant S_ .f32 0xFF800000#32 := by
  after_reads_simp
theorem read6_masked : after hostOps0_6 V (Proc.devRef .tc main_v86)
    = select (V (Proc.devRef .tc main_v85)) (V (Proc.devRef .tc main_arg1)) (broadcastInDim S5000 ![] bcast_S_S5000 (id (V (Proc.devRef .tc main_cst_12)))) := by
  after_reads_simp; rfl
theorem read7_other : after hostOps0_7 V (Proc.devRef .tc main_v88) = andi (V (Proc.devRef .tc main_v82)) (noti (V (Proc.devRef .tc main_v84))) := by
  after_reads_simp
theorem read7_low : after hostOps0_7 V (Proc.devRef .tc main_cst_13) = constant S_ .f32 0xFF800000#32 := by
  after_reads_simp
theorem read8_masked : after hostOps0_8 V (Proc.devRef .tc main_v89)
    = select (V (Proc.devRef .tc main_v88)) (V (Proc.devRef .tc main_arg1)) (broadcastInDim S5000 ![] bcast_S_S5000 (id (V (Proc.devRef .tc main_cst_13)))) := by
  after_reads_simp; rfl

theorem after_app (l₁ l₂ : List (HloOp τ sig (Elt F))) : after (l₁ ++ l₂) V = after l₂ (after l₁ V) := by
  induction l₁ generalizing V with
  | nil => rfl
  | cons op l ih => exact ih _

/-- The last lines, after the picks are joined. -/
theorem split9 : after hostOps0_9 V = after (List.drop 5 hostOps0_9) (after (List.take 5 hostOps0_9) V) := by
  conv_lhs => rw [← List.take_append_drop 5 (hostOps0_9 : List (HloOp τ sig (Elt F)))]
  exact after_app V _ _

theorem read9_picks : after (List.take 5 hostOps0_9) V (Proc.devRef .tc main_v90)
    = bothOf (bestOf (V (Proc.devRef .tc main_v86))) (bestOf (V (Proc.devRef .tc main_v89))) := by
  simp only [List.take_succ_cons, List.take_zero]
  after_reads_simp
  refine bothOf_congr ?_ ?_ <;> after_reads_simp <;> rfl

theorem read9_res : after (List.drop 5 hostOps0_9) V (Proc.devRef .tc main_v121)
    = joined (scaledOf (V (Proc.devRef .tc main_arg1)) (V (Proc.devRef .tc main_arg2)) (V (Proc.devRef .tc main_v90)))
        (boxesOf (V (Proc.devRef .tc main_arg0)) (V (Proc.devRef .tc main_v90))) := by
  simp only [List.drop_succ_cons, List.drop_zero]
  after_reads_simp
  refine joined_congr ?_ ?_ <;> after_reads_simp <;> rfl

end Reads

/-! ## The whole run -/

section Whole
variable (m : (ℓ : Loc nD τ sig) → Buf (Elt F) ℓ) (c : Dev nD)

abbrev argB : FVec F S5000x4 .f32 := m ((c.tc : Thread nD τ).loc main_arg0)
abbrev argS : FVec F S5000 .f32 := m ((c.tc : Thread nD τ).loc main_arg1)
abbrev argH : FVec F S5000x256 .f32 := m ((c.tc : Thread nD τ).loc main_arg2)
abbrev argL : IVec S5000 32 := m ((c.tc : Thread nD τ).loc main_arg3)

theorem entry_ratio : entryContents preI m c (Proc.devRef .tc main_v71_0)
    = ratioOf (areaOf (PI.sortedBoxes (argB m c) (argS m c) (argL m c))) (areaOf (PI.sortedBoxes (argB m c) (argS m c) (argL m c)))
        (clipOf (spanOf (PI.sortedBoxes (argB m c) (argS m c) (argL m c)))) := by
  simp only [entryContents, afterL_cons, afterL_nil]
  rw [read4_ratio, read3_clip, after_of_writes_sub hostOps0_3 _ hostOps0_3_writes (by decide),
    after_of_writes_sub hostOps0_3 _ hostOps0_3_writes (by decide), read2_area, read2_area', read2_span, read2_zero, read1_order,
    after_of_writes_sub hostOps0_1 _ hostOps0_1_writes (by decide), read0_moved, read0_neg]
  rfl

theorem entry_ids : entryContents preI m c (Proc.devRef .tc main_v71_1) = iotaInDim S5000 32 0 := by
  simp only [entryContents, afterL_cons, afterL_nil]
  exact read4_ids _

theorem entry_ctr : entryContents preI m c (Proc.devRef .tc main_v71_3) = constantI S_ 32 0#32 := by
  simp only [entryContents, afterL_cons, afterL_nil]
  exact read4_ctr _

theorem entry_keep : entryContents preI m c (Proc.devRef .tc main_v71_4) = broadcastInDim S5000 ![] bcast_S_S5000 (constantI S_ 1 0#1) := by
  simp only [entryContents, afterL_cons, afterL_nil]
  exact read4_keep _

theorem entry_order : entryContents preI m c (Proc.devRef .tc main_v9) = PI.orderOf (argS m c) := by
  simp only [entryContents, afterL_cons, afterL_nil]
  rw [after_of_writes_sub hostOps0_4 _ hostOps0_4_writes (by decide), after_of_writes_sub hostOps0_3 _ hostOps0_3_writes (by decide),
    after_of_writes_sub hostOps0_2 _ hostOps0_2_writes (by decide), read1_order, read0_neg]
  rfl

theorem entry_keeps {b : Ref sig .tc} (h0 : b ∉ hostOps0_W) (h1 : b ∉ hostOps0_1_W) (h2 : b ∉ hostOps0_2_W) (h3 : b ∉ hostOps0_3_W) (h4 : b ∉ hostOps0_4_W) :
    entryContents preI m c (Proc.devRef .tc b) = m (c, Proc.devRef .tc b) := by
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The kept marks the loop ends with. -/
def keptAll : IVec S5000 1 := (STEP^[5000] (entryContents preI m c)) (Proc.devRef .tc main_v71_4)

/-- The kept boxes with a score above the threshold. -/
abbrev goodAll : IVec S5000 1 := goodOf (argS m c) (placed (PI.orderOf (argS m c)) (keptAll m c))

/-- The two lists of picks, one after the other. -/
def picksAll : IVec S30 32 :=
  bothOf (bestOf (maskedOf (argS m c) (andi (goodAll m c) (humOf (argL m c)))))
    (bestOf (maskedOf (argS m c) (andi (goodAll m c) (noti (humOf (argL m c))))))

/-- The result, of the arguments and the picks. -/
theorem final_res : finalContents condOps preI bodyI postI 5000 m c (Proc.devRef .tc main_v121)
    = joined (scaledOf (argS m c) (argH m c) (picksAll m c)) (boxesOf (argB m c) (picksAll m c)) := by
  simp only [finalContents, afterL_cons, afterL_nil]
  have hK : after condOps (atTrip condOps bodyI (entryContents preI m) 5000 c) (Proc.devRef .tc main_v71_4) = keptAll m c := by
    rw [after_of_writes_sub condOps _ condOps_writes (by decide)]
    exact atK_agree m c 5000 main_v71_4 (by decide)
  have hk : ∀ b : Ref sig .tc, b ∉ condOps_W → b ∉ while0Ops0_W →
      after condOps (atTrip condOps bodyI (entryContents preI m) 5000 c) (Proc.devRef .tc b) = entryContents preI m c (Proc.devRef .tc b) := fun b hc hw => by
    rw [after_of_writes_sub condOps _ condOps_writes hc, atTrip_keep hc hw]
  have h9 := (hk main_v9 (by decide) (by decide)).trans (entry_order m c)
  have h0 := (hk main_arg0 (by decide) (by decide)).trans (entry_keeps m c (by decide) (by decide) (by decide) (by decide) (by decide))
  have h1 := (hk main_arg1 (by decide) (by decide)).trans (entry_keeps m c (by decide) (by decide) (by decide) (by decide) (by decide))
  have h2 := (hk main_arg2 (by decide) (by decide)).trans (entry_keeps m c (by decide) (by decide) (by decide) (by decide) (by decide))
  have h3 := (hk main_arg3 (by decide) (by decide)).trans (entry_keeps m c (by decide) (by decide) (by decide) (by decide) (by decide))
  revert hK h9 h0 h1 h2 h3
  generalize after condOps (atTrip condOps bodyI (entryContents preI m) 5000 c) = W
  intro hK h9 h0 h1 h2 h3
  have a5 : ∀ b : Ref sig .tc, b ∉ post5_W → after hostOps0_5 W (Proc.devRef .tc b) = W (Proc.devRef .tc b) := fun b h =>
    after_of_writes_sub hostOps0_5 _ post5_writes h
  have a6 : ∀ (V : Valuation τ sig (Elt F)) (b : Ref sig .tc), b ∉ post6_W → after hostOps0_6 V (Proc.devRef .tc b) = V (Proc.devRef .tc b) := fun V b h =>
    after_of_writes_sub hostOps0_6 _ post6_writes h
  have a7 : ∀ (V : Valuation τ sig (Elt F)) (b : Ref sig .tc), b ∉ post7_W → after hostOps0_7 V (Proc.devRef .tc b) = V (Proc.devRef .tc b) := fun V b h =>
    after_of_writes_sub hostOps0_7 _ post7_writes h
  have a8 : ∀ (V : Valuation τ sig (Elt F)) (b : Ref sig .tc), b ∉ post8_W → after hostOps0_8 V (Proc.devRef .tc b) = V (Proc.devRef .tc b) := fun V b h =>
    after_of_writes_sub hostOps0_8 _ post8_writes h
  have a9 : ∀ (V : Valuation τ sig (Elt F)) (b : Ref sig .tc), b ∉ post9_W → after (List.take 5 hostOps0_9) V (Proc.devRef .tc b) = V (Proc.devRef .tc b) := fun V b h =>
    after_of_writes_sub _ _ (List.forall_iff_forall_mem.2 fun op hop => List.forall_iff_forall_mem.1 post9_writes op (List.mem_of_mem_take hop)) h
  have e86 : after hostOps0_8 (after hostOps0_7 (after hostOps0_6 (after hostOps0_5 W))) (Proc.devRef .tc main_v86)
      = maskedOf (argS m c) (andi (goodAll m c) (humOf (argL m c))) := by
    rw [a8 _ _ (by decide), a7 _ _ (by decide), read6_masked, read5_both, read5_low, a5 _ (by decide), h9, h1, h3, hK]
    rfl
  have e89 : after hostOps0_8 (after hostOps0_7 (after hostOps0_6 (after hostOps0_5 W))) (Proc.devRef .tc main_v89)
      = maskedOf (argS m c) (andi (goodAll m c) (noti (humOf (argL m c)))) := by
    rw [read8_masked, read7_other, read7_low, a7 _ _ (by decide), a6 _ _ (by decide), a6 _ _ (by decide), a6 _ _ (by decide), read5_good, read5_hum,
      a5 _ (by decide), h9, h1, h3, hK]
    rfl
  rw [split9, read9_res, read9_picks, e86, e89, a9 _ _ (by decide), a9 _ _ (by decide), a9 _ _ (by decide), a8 _ _ (by decide), a8 _ _ (by decide),
    a8 _ _ (by decide), a7 _ _ (by decide), a7 _ _ (by decide), a7 _ _ (by decide), a6 _ _ (by decide), a6 _ _ (by decide), a6 _ _ (by decide),
    a5 _ (by decide), a5 _ (by decide), a5 _ (by decide), h0, h1, h2]
  rfl

end Whole

end Cert.Proof.RI

end
-- ==== Proof.Sel.Lists.lean ====
/-
  What both programs select, on plain lists of natural numbers: which positions survive the suppression, the first 15 of a
  kind, and how a short list is filled up with the smallest free indices.
-/
module

public import Mathlib.Data.List.Nodup
public import Mathlib.Data.List.Range
public import Idealize.ShloMosaic.Lib.SortPrefix

@[expose] public section

noncomputable section

namespace Cert.Proof.Sel

open scoped Classical

/-- Position `i` survives: no earlier survivor overlaps it. -/
def Kept (ov : ℕ → ℕ → Prop) (i : ℕ) : Prop := ¬ ∃ j, ∃ _ : j < i, ov i j ∧ Kept ov j
termination_by i

theorem kept_iff (ov : ℕ → ℕ → Prop) (i : ℕ) : Kept ov i ↔ ¬ ∃ j, j < i ∧ ov i j ∧ Kept ov j := by
  rw [Kept]
  simp only [exists_prop]

/-- Whether a position survives depends on the overlaps of no later positions. -/
theorem kept_congr {ov ov' : ℕ → ℕ → Prop} {n : ℕ} (h : ∀ i j, i < n → j < i → (ov i j ↔ ov' i j)) :
    ∀ i, i < n → (Kept ov i ↔ Kept ov' i) := by
  intro i
  induction i using Nat.strong_induction_on with
  | _ i ih =>
    intro hi
    rw [kept_iff, kept_iff]
    refine not_congr (exists_congr fun j => and_congr_right fun hj => ?_)
    rw [h i j hi hj, ih j hj (lt_trans hj hi)]

/-- The indices of the chosen positions below `t`, in order. -/
def chosen (q : ℕ → Prop) (g : ℕ → ℕ) (t : ℕ) : List ℕ := ((List.range t).filter fun j => decide (q j)).map g

/-- The first 15 of them. -/
def found (q : ℕ → Prop) (g : ℕ → ℕ) (t : ℕ) : List ℕ := (chosen q g t).take 15

theorem chosen_succ (q : ℕ → Prop) (g : ℕ → ℕ) (t : ℕ) : chosen q g (t + 1) = if q t then chosen q g t ++ [g t] else chosen q g t := by
  unfold chosen
  rw [List.range_succ, List.filter_append, List.map_append]
  by_cases h : q t <;> simp [h]

theorem take_snoc (l : List ℕ) (x : ℕ) : (l ++ [x]).take 15 = if (l.take 15).length < 15 then l.take 15 ++ [x] else l.take 15 := by
  rw [List.length_take]
  split
  · rw [List.take_of_length_le (l := l) (by omega), List.take_of_length_le (by rw [List.length_append, List.length_singleton]; omega)]
  · exact List.take_append_of_le_length (by omega)

theorem found_succ (q : ℕ → Prop) (g : ℕ → ℕ) (t : ℕ) :
    found q g (t + 1) = if q t ∧ (found q g t).length < 15 then found q g t ++ [g t] else found q g t := by
  unfold found
  rw [chosen_succ]
  by_cases h : q t
  · rw [if_pos h, take_snoc]
    simp only [h, true_and]
  · rw [if_neg h, if_neg (fun c => h c.1)]

theorem found_length (q : ℕ → Prop) (g : ℕ → ℕ) (t : ℕ) : (found q g t).length ≤ 15 := by
  unfold found
  rw [List.length_take]
  omega

theorem found_zero (q : ℕ → Prop) (g : ℕ → ℕ) : found q g 0 = [] := rfl

/-- Where nothing more is chosen, the list stays. -/
theorem found_of_none {q : ℕ → Prop} {g : ℕ → ℕ} {t n : ℕ} (htn : t ≤ n) (h : ∀ j, t ≤ j → j < n → ¬ q j) : found q g n = found q g t := by
  induction n, htn using Nat.le_induction with
  | base => rfl
  | succ m hm ih =>
    rw [found_succ, if_neg (fun c => h m hm (Nat.lt_succ_self m) c.1)]
    exact ih fun j hj hjm => h j hj (by omega)

/-- A full list stays. -/
theorem found_of_full {q : ℕ → Prop} {g : ℕ → ℕ} {t n : ℕ} (htn : t ≤ n) (h : 15 ≤ (found q g t).length) : found q g n = found q g t := by
  induction n, htn using Nat.le_induction with
  | base => rfl
  | succ m hm ih => rw [found_succ, ih, if_neg (fun c => absurd c.2 (by omega))]

/-- The list filled up to 15 places by the smallest indices below `k` that are not in it. -/
def filled (L : List ℕ) (k : ℕ) : List ℕ := L ++ (((List.range k).filter fun o => decide (o ∉ L)).take (15 - L.length))

theorem filled_zero (L : List ℕ) : filled L 0 = L := by simp [filled]

theorem filled_succ (L : List ℕ) (k : ℕ) :
    filled L (k + 1) = if k ∉ L ∧ (filled L k).length - L.length < 15 - L.length then filled L k ++ [k] else filled L k := by
  unfold filled
  rw [List.range_succ, List.filter_append]
  by_cases h : k ∈ L
  · rw [if_neg (fun c => c.1 h)]
    simp [h]
  · have e : [k].filter (fun o => decide (o ∉ L)) = [k] := by simp [h]
    rw [e]
    generalize (List.range k).filter (fun o => decide (o ∉ L)) = l
    rw [List.length_append, List.length_take, Nat.add_sub_cancel_left]
    by_cases c : l.length < 15 - L.length
    · rw [if_pos ⟨h, by omega⟩, List.append_assoc]
      congr 1
      rw [List.take_of_length_le (l := l) (by omega), List.take_of_length_le (by rw [List.length_append, List.length_singleton]; omega)]
    · rw [if_neg (fun d => c (by omega))]
      congr 1
      exact List.take_append_of_le_length (by omega)

/-- The first 30 indices hold enough free ones. -/
theorem free_length (L : List ℕ) (hL : L.length ≤ 15) : 15 - L.length ≤ ((List.range 30).filter fun o => decide (o ∉ L)).length := by
  have h1 : ((List.range 30).filter fun o => decide (o ∈ L)).length ≤ L.length := by
    refine List.Subperm.length_le (List.subperm_of_subset (List.nodup_range.filter _) fun x hx => ?_)
    exact of_decide_eq_true (List.mem_filter.mp hx).2
  have h2 := List.length_eq_length_filter_add (l := List.range 30) (fun o => decide (o ∈ L))
  have e : ((List.range 30).filter fun o => decide (o ∉ L)) = (List.range 30).filter (fun o => !decide (o ∈ L)) := by
    congr 1
    funext o
    by_cases h : o ∈ L <;> simp [h]
  rw [e]
  rw [List.length_range] at h2
  omega

theorem filled_length (L : List ℕ) (hL : L.length ≤ 15) : (filled L 30).length = 15 := by
  have := free_length L hL
  unfold filled
  rw [List.length_append, List.length_take]
  omega

/-- The first 15 of "the chosen, then everything else in order" are the first 15 chosen, filled up. -/
theorem take_all (A : List ℕ) (n : ℕ) (hn : 30 ≤ n) :
    (A ++ (List.range n).filter fun o => decide (o ∉ A)).take 15 = filled (A.take 15) 30 := by
  by_cases h : 15 ≤ A.length
  · rw [List.take_append_of_le_length h]
    have e : (A.take 15).length = 15 := by rw [List.length_take]; omega
    unfold filled
    rw [e]
    simp
  · have hf := free_length A (by omega)
    obtain ⟨m, rfl⟩ := Nat.exists_eq_add_of_le hn
    rw [List.take_of_length_le (l := A) (by omega)]
    unfold filled
    rw [List.take_append, List.take_of_length_le (l := A) (by omega), List.range_add, List.filter_append,
      List.take_append_of_le_length hf]

end Cert.Proof.Sel

end
-- ==== Proof.Alg.Words.lean ====
/-
  The conditions the kernel computes, read over the extended reals: a lane read by a masked sum is the lane, a count of marks
  is below one half exactly when there is no mark.
-/
module

public import proofs.«01_k».proof.Proof.PI.Lanes
public import proofs.«01_k».proof.Proof.Sel.Lists
public import Idealize.ShloMosaic.Lib.IdealHost
public import Idealize.ShloMosaic.Lib.StableHlo.Predicate

@[expose] public section

noncomputable section

namespace Cert.Proof.Alg

open Cert.KernelIdeal Cert.KernelIdeal.Gen Cert.Proof.PI
open Idealize.ShloMosaic Idealize.ShloMosaic.TcCoe
open Idealize.ShloMosaic.StableHlo.Predicate (ofBool_eq_one_iff slt_bool_iff_toNat)

/-! ## Numbers and bits -/

theorem half_eq : Ideal.ofBits .f32 0x3F000000#32 = (((1 : ℝ) / 2 : ℝ) : EReal) := by
  simp [Ideal.ofBits, Ideal.ieee, -EReal.coe_mul]; norm_num

theorem half_lt_one : Ideal.ofBits .f32 0x3F000000#32 < 1 := by
  rw [half_eq, ← EReal.coe_one, EReal.coe_lt_coe_iff]; norm_num

theorem zero_lt_half : 0 < Ideal.ofBits .f32 0x3F000000#32 := by
  rw [half_eq, ← EReal.coe_zero, EReal.coe_lt_coe_iff]; norm_num

theorem and_one (a b : BitVec 1) : a &&& b = 1#1 ↔ a = 1#1 ∧ b = 1#1 := by revert a b; decide
theorem or_one (a b : BitVec 1) : a ||| b = 1#1 ↔ a = 1#1 ∨ b = 1#1 := by revert a b; decide
theorem xor_one (a : BitVec 1) : a ^^^ 1#1 = 1#1 ↔ ¬ a = 1#1 := by revert a; decide
theorem yes_iff (b : BitVec 1) : yes b ↔ b = 1#1 := by revert b; decide
theorem cond1_iff (a b : BitVec 1) : k0_cond1 a b = 1#1 ↔ a = 1#1 ∧ b = 1#1 := by revert a b; decide

theorem slt_iff {a b : BitVec 32} (ha : a.toNat < 2 ^ 31) (hb : b.toNat < 2 ^ 31) : Scalar.cmpi .slt a b = 1#1 ↔ a.toNat < b.toNat :=
  slt_bool_iff_toNat ha hb

theorem cmp_ogt (x y : EReal) : Ideal.cmp .ogt x y = 1#1 ↔ y < x := by
  show BitVec.ofBool (decide (y < x)) = 1#1 ↔ _
  rw [ofBool_eq_one_iff, decide_eq_true_iff]
theorem cmp_oge (x y : EReal) : Ideal.cmp .oge x y = 1#1 ↔ y ≤ x := by
  show BitVec.ofBool (decide (y ≤ x)) = 1#1 ↔ _
  rw [ofBool_eq_one_iff, decide_eq_true_iff]
theorem cmp_olt (x y : EReal) : Ideal.cmp .olt x y = 1#1 ↔ x < y := by
  show BitVec.ofBool (decide (x < y)) = 1#1 ↔ _
  rw [ofBool_eq_one_iff, decide_eq_true_iff]
theorem cmp_oeq (x y : EReal) : Ideal.cmp .oeq x y = 1#1 ↔ x = y := by
  show BitVec.ofBool (decide (x = y)) = 1#1 ↔ _
  rw [ofBool_eq_one_iff, decide_eq_true_iff]

/-! ## Sums of a row -/

/-- The sum of a row of extended reals. -/
theorem sumF_eq (v : FVec Ideal S1x128 .f32) : sumF v = ∑ i, (v i : EReal) := by
  unfold sumF extractAt shapeCast
  show Ideal.reduceAdd reduces_S1x1x128_S1 _ _ = _
  unfold Ideal.reduceAdd
  rw [drop_all]
  exact Equiv.sum_comp (Shape.reshapeEquiv shapeCasts_S1x128_S1x1x128) (fun i => (v i : EReal))

theorem extF_eq (v : FVec Ideal S1x128 .f32) (c : BitVec 32) (h : c.toNat < 128) : extF v c = v (ix2 0 ⟨c.toNat, h⟩) := by
  unfold extF
  rw [castRow, sumF_eq]
  simp only [select_at, lane_eq]
  refine Eq.trans (Finset.sum_congr rfl fun i _ => ?_) (sum_lane (α := EReal) v c h)
  split
  · rfl
  · exact Ideal.ofBits_zero_f32

/-- A row of marks: one where `p` holds, zero elsewhere. -/
def marks (m : IVec S1x128 1) : FVec Ideal S1x128 .f32 :=
  select m (broadcast S1x128 (Scalar.ofBits .f32 0x3F800000#32)) (broadcast S1x128 (Scalar.ofBits .f32 0x00000000#32))

theorem marks_at (m : IVec S1x128 1) (i : S1x128.Idx) : (marks m i : EReal) = if m i = 1#1 then 1 else 0 := by
  show (if m i = 1#1 then Ideal.ofBits .f32 0x3F800000#32 else Ideal.ofBits .f32 0x00000000#32 : EReal) = _
  rw [Ideal.ofBits_one_f32, Ideal.ofBits_zero_f32]

theorem marks_nonneg (m : IVec S1x128 1) (i : S1x128.Idx) : 0 ≤ (marks m i : EReal) := by
  rw [marks_at]; split
  · exact zero_le_one
  · exact le_rfl

theorem sum_marks_nonneg (m : IVec S1x128 1) : (0 : EReal) ≤ sumF (marks m) := by
  rw [sumF_eq]; exact Finset.sum_nonneg fun i _ => marks_nonneg m i

theorem sum_marks_some (m : IVec S1x128 1) (i : S1x128.Idx) (h : m i = 1#1) : (1 : EReal) ≤ sumF (marks m) := by
  rw [sumF_eq]
  refine le_trans (le_of_eq ?_) (Finset.single_le_sum (f := fun i => (marks m i : EReal)) (fun i _ => marks_nonneg m i) (Finset.mem_univ i))
  show 1 = (marks m i : EReal)
  rw [marks_at, if_pos h]

theorem sum_marks_none (m : IVec S1x128 1) (h : ∀ i, ¬ m i = 1#1) : (sumF (marks m) : EReal) = 0 := by
  rw [sumF_eq]
  refine Finset.sum_eq_zero fun i _ => ?_
  rw [marks_at, if_neg (h i)]

/-! ## Positions -/

/-- A table of 40 rows of 128 at a position. -/
def at40 {α : Type} (x : S40x128.Idx → α) (n : ℕ) : α := x (ix2 (Fin.ofNat 40 (n / 128)) (Fin.ofNat 128 n))

theorem rowLane {α : Type} (x : S40x128.Idx → α) (t : BitVec 32) (ht : t.toNat < 5120) :
    row x (rowIx t) (ix2 0 ⟨(Scalar.andi t 127#32).toNat, lane_lt t⟩) = at40 x t.toNat := by
  show x (ix2 (rowIx t) ⟨(Scalar.andi t 127#32).toNat, lane_lt t⟩) = x (ix2 (Fin.ofNat 40 (t.toNat / 128)) (Fin.ofNat 128 t.toNat))
  congr 2
  · refine Fin.ext ?_
    rw [(shr7 ht).2]
    show _ = t.toNat / 128 % 40
    omega
  · exact Fin.ext (lane_toNat t)

theorem ext_pos (x : S40x128.Idx → Ideal .f32) (t : BitVec 32) (ht : t.toNat < 5120) : extF (F := Ideal) (row x (rowIx t)) (Scalar.andi t 127#32) = at40 x t.toNat :=
  (extF_eq _ _ (lane_lt t)).trans (rowLane x t ht)

theorem extI_pos (x : S40x128.Idx → BitVec 32) (t : BitVec 32) (ht : t.toNat < 5120) : extI (row x (rowIx t)) (Scalar.andi t 127#32) = at40 x t.toNat :=
  (extI_eq _ _ (lane_lt t)).trans (rowLane x t ht)

theorem row_at {α : Type} (x : S40x128.Idx → α) (k : ℕ) (l : Fin 128) : row x (Fin.ofNat 40 k) (ix2 0 l) = at40 x (k * 128 + l.val) := by
  have e1 : (k * 128 + l.val) / 128 = k := by omega
  have e2 : Fin.ofNat 128 (k * 128 + l.val) = l := Fin.ext (by show (k * 128 + l.val) % 128 = _; omega)
  show x (ix2 (Fin.ofNat 40 k) l) = x (ix2 _ _)
  rw [e1, e2]

variable (X : Ins Ideal)

/-- The overlap of two boxes with their areas given: the intersection over the union. -/
def iouOf (x0 y0 x1 y1 ar jx0 jy0 jx1 jy1 ja : EReal) : EReal :=
  Ideal.div (max (min jx1 x1 - max jx0 x0) 0 * max (min jy1 y1 - max jy0 y0) 0)
    ((ar + ja) - max (min jx1 x1 - max jx0 x0) 0 * max (min jy1 y1 - max jy0 y0) 0 + Ideal.ofBits .f32 0x3089705F#32)

/-- The kernel's overlap of positions. -/
def kIou (i j : ℕ) : EReal :=
  iouOf (at40 X.x0 i) (at40 X.y0 i) (at40 X.x1 i) (at40 X.y1 i) (at40 X.ar i) (at40 X.x0 j) (at40 X.y0 j) (at40 X.x1 j) (at40 X.y1 j) (at40 X.ar j)

def kOv (i j : ℕ) : Prop := Ideal.ofBits .f32 0x3F000000#32 < kIou X i j
def kAct (j : ℕ) : Prop := Ideal.ofBits .f32 0x3E4CCCCD#32 ≤ (at40 X.sc j : EReal)
def kHum (j : ℕ) : Prop := Ideal.ofBits .f32 0x3F000000#32 < ((((at40 X.hu j : BitVec 32).toInt : ℝ)) : EReal)

theorem isAct_iff (t : BitVec 32) (ht : t.toNat < 5120) : isAct X t = 1#1 ↔ kAct X t.toNat := by
  unfold isAct kAct
  rw [ext_pos _ _ ht]
  exact cmp_oge _ _

theorem isHum_iff (t : BitVec 32) (ht : t.toNat < 5120) : isHum X t = 1#1 ↔ kHum X t.toNat := by
  unfold isHum kHum
  rw [extI_pos _ _ ht]
  exact cmp_ogt _ _

theorem origIx_eq (t : BitVec 32) (ht : t.toNat < 5120) : origIx X t = at40 X.pe t.toNat := extI_pos _ _ ht

/-- The marks of the suppressors in a row. -/
def rowMask (keep : S40x128.Idx → EReal) (t k : BitVec 32) (x0 y0 x1 y1 ar : EReal) (jx0 jy0 jx1 jy1 ja kb : S1x128.Idx → EReal) : IVec S1x128 1 := fun i =>
  (Ideal.cmp .ogt (iouOf x0 y0 x1 y1 ar (jx0 i) (jy0 i) (jx1 i) (jy1 i) (ja i)) (Ideal.ofBits .f32 0x3F000000#32)
    &&& Ideal.cmp .ogt (kb i) (Ideal.ofBits .f32 0x3F000000#32)) &&& BitVec.ofBool ((lane i + k * 128#32).slt t)

theorem hits_eq (keep : S40x128.Idx → EReal) (t k : BitVec 32) (x0 y0 x1 y1 ar : EReal) (jx0 jy0 jx1 jy1 ja kb : S1x128.Idx → EReal) :
    hits (F := Ideal) t k x0 y0 x1 y1 ar jx0 jy0 jx1 jy1 ja kb = sumF (marks (rowMask keep t k x0 y0 x1 y1 ar jx0 jy0 jx1 jy1 ja kb)) := by
  unfold hits
  simp only [castRow]
  refine congrArg sumF ?_
  show select _ _ _ = select _ _ _
  refine congrArg (fun m => select m _ _) ?_
  funext i
  unfold rowMask iouOf
  rw [← Ideal.ofBits_zero_f32]
  rfl

/-- A kept position `n` overlaps position `t`. -/
def HitAt (keep : S40x128.Idx → EReal) (t n : ℕ) : Prop := kOv X t n ∧ Ideal.ofBits .f32 0x3F000000#32 < at40 keep n

theorem rowMask_iff (keep : S40x128.Idx → EReal) (t : BitVec 32) (ht : t.toNat < 5120) (k : ℕ) (hk : k < 40) (l : Fin 128) :
    rowMask keep t (Scf.iv 0#32 1#32 k) (at40 X.x0 t.toNat) (at40 X.y0 t.toNat) (at40 X.x1 t.toNat) (at40 X.y1 t.toNat) (at40 X.ar t.toNat)
      (row X.x0 (Fin.ofNat 40 k)) (row X.y0 (Fin.ofNat 40 k)) (row X.x1 (Fin.ofNat 40 k)) (row X.y1 (Fin.ofNat 40 k))
      (row X.ar (Fin.ofNat 40 k)) (row keep (Fin.ofNat 40 k)) (ix2 0 l) = 1#1 ↔ HitAt X keep t.toNat (k * 128 + l.val) ∧ k * 128 + l.val < t.toNat := by
  have hw : (lane (ix2 0 l) + Scf.iv 0#32 1#32 k * 128#32).toNat = k * 128 + l.val := by
    have e1 : (lane (ix2 0 l)).toNat = l.val := by
      show (BitVec.ofNat 32 (0 * 128 + l.val)).toNat = _
      rw [BitVec.toNat_ofNat]; omega
    rw [BitVec.toNat_add, BitVec.toNat_mul, e1, iv_toNat (by omega)]
    show (l.val + k * 128 % _) % _ = _
    omega
  unfold rowMask
  rw [and_one, and_one, cmp_ogt, cmp_ogt, slt_bool_iff_toNat (by rw [hw]; omega) (by omega), hw]
  simp only [row_at]
  rfl

theorem supp_facts (keep : S40x128.Idx → EReal) (t : BitVec 32) (ht : t.toNat < 5120) : ∀ k, k ≤ 40 →
    (0 : EReal) ≤ suppTo X keep t k ∧
    ((∃ n, n < k * 128 ∧ n < t.toNat ∧ HitAt X keep t.toNat n) → (1 : EReal) ≤ suppTo X keep t k) ∧
    ((¬ ∃ n, n < k * 128 ∧ n < t.toNat ∧ HitAt X keep t.toNat n) → (suppTo X keep t k : EReal) = 0)
  | 0, _ => by
    have e : (suppTo X keep t 0 : EReal) = 0 := Ideal.ofBits_zero_f32
    refine ⟨le_of_eq e.symm, fun ⟨n, hn, _⟩ => ?_, fun _ => e⟩
    omega
  | k + 1, hk => by
    obtain ⟨h0, h1, h2⟩ := supp_facts keep t ht k (by omega)
    have hm := rowMask_iff X keep t ht k (by omega)
    have e : (suppTo X keep t (k + 1) : EReal) = suppTo X keep t k + sumF (marks (rowMask keep t (Scf.iv 0#32 1#32 k) (at40 X.x0 t.toNat) (at40 X.y0 t.toNat) (at40 X.x1 t.toNat) (at40 X.y1 t.toNat) (at40 X.ar t.toNat)
      (row X.x0 (Fin.ofNat 40 k)) (row X.y0 (Fin.ofNat 40 k)) (row X.x1 (Fin.ofNat 40 k)) (row X.y1 (Fin.ofNat 40 k))
      (row X.ar (Fin.ofNat 40 k)) (row keep (Fin.ofNat 40 k)))) := by
      rw [suppTo, ext_pos _ _ ht, ext_pos _ _ ht, ext_pos _ _ ht, ext_pos _ _ ht, ext_pos _ _ ht, hits_eq keep]
      rfl
    rw [e]
    generalize rowMask keep t (Scf.iv 0#32 1#32 k) (at40 X.x0 t.toNat) (at40 X.y0 t.toNat) (at40 X.x1 t.toNat) (at40 X.y1 t.toNat) (at40 X.ar t.toNat)
      (row X.x0 (Fin.ofNat 40 k)) (row X.y0 (Fin.ofNat 40 k)) (row X.x1 (Fin.ofNat 40 k)) (row X.y1 (Fin.ofNat 40 k))
      (row X.ar (Fin.ofNat 40 k)) (row keep (Fin.ofNat 40 k)) = m at hm ⊢
    refine ⟨add_nonneg h0 (sum_marks_nonneg m), fun ⟨n, hn, hnt, hh⟩ => ?_, fun hno => ?_⟩
    · by_cases c : n < k * 128
      · exact le_add_of_le_of_nonneg (h1 ⟨n, c, hnt, hh⟩) (sum_marks_nonneg m)
      · have en : k * 128 + (n - k * 128) = n := by omega
        refine le_add_of_nonneg_of_le h0 (sum_marks_some m (ix2 0 ⟨n - k * 128, by omega⟩) ((hm ⟨n - k * 128, by omega⟩).mpr ?_))
        show HitAt X keep t.toNat (k * 128 + (n - k * 128)) ∧ k * 128 + (n - k * 128) < t.toNat
        rw [en]
        exact ⟨hh, hnt⟩
    · rw [h2 (fun ⟨n, hn, r⟩ => hno ⟨n, by omega, r⟩), zero_add]
      refine sum_marks_none m fun i hi => ?_
      rw [eq_lane i] at hi
      have := (hm (i 1)).mp hi
      have hl : (i 1).val < 128 := (i 1).isLt
      exact hno ⟨k * 128 + (i 1).val, by omega, this.2, this.1⟩

theorem isFree_iff (keep : S40x128.Idx → EReal) (t : BitVec 32) (ht : t.toNat < 5120) :
    isFree X keep t = 1#1 ↔ ¬ ∃ n, n < t.toNat ∧ HitAt X keep t.toNat n := by
  have hr := (shr7 ht).2
  obtain ⟨_, h1, h2⟩ := supp_facts X keep t ht ((rowIx t).val + 1) (rowIx t).isLt
  have e : isFree X keep t = 1#1 ↔ (suppTo X keep t ((rowIx t).val + 1) : EReal) < Ideal.ofBits .f32 0x3F000000#32 := cmp_olt _ _
  rw [e]
  constructor
  · rintro hlt ⟨n, hn, hh⟩
    exact absurd (lt_of_le_of_lt (h1 ⟨n, by omega, hn, hh⟩) hlt) (not_lt.mpr half_lt_one.le)
  · intro hno
    rw [h2 (fun ⟨n, _, hn, hh⟩ => hno ⟨n, hn, hh⟩)]
    exact zero_lt_half

/-- A fill loop's condition: the candidate is not in the list, and there is room. -/
theorem fillTake_iff (nv o cnt : BitVec 32) (v : IVec S1x128 32) (hnv : nv.toNat ≤ 15) (hc : cnt.toNat ≤ 15) :
    fillTake (F := Ideal) nv o cnt v = 1#1 ↔ (¬ ∃ l : Fin 128, l.val < nv.toNat ∧ v (ix2 0 l) = o) ∧ cnt.toNat < 15 - nv.toNat := by
  have hs : (Scalar.subi 15#32 nv).toNat = 15 - nv.toNat := by
    show (15#32 - nv).toNat = _
    rw [BitVec.toNat_sub]; show (_ - _ + 15) % _ = _; omega
  have hl : ∀ l : Fin 128, (lane (ix2 0 l)).toNat = l.val := fun l => by
    show (BitVec.ofNat 32 (0 * 128 + l.val)).toNat = _
    rw [BitVec.toNat_ofNat]; omega
  let m : IVec S1x128 1 := andi (cmpf (F := Ideal) .oeq (sitofp .f32 v) (broadcast S1x128 (Scalar.sitofp .f32 o))) (cmpi .slt lane (broadcast S1x128 nv))
  have hm : ∀ l : Fin 128, m (ix2 0 l) = 1#1 ↔ v (ix2 0 l) = o ∧ l.val < nv.toNat := fun l => by
    show (Ideal.cmp .oeq (((v (ix2 0 l)).toInt : ℝ) : EReal) ((o.toInt : ℝ) : EReal)) &&& BitVec.ofBool ((lane (ix2 0 l)).slt nv) = 1#1 ↔ _
    rw [and_one, cmp_oeq, slt_bool_iff_toNat (by rw [hl]; omega) (by omega), hl, EReal.coe_eq_coe_iff, Int.cast_inj, BitVec.toInt_inj]
  have e : fillTake (F := Ideal) nv o cnt v = (Ideal.cmp .ogt (sumF (marks m)) (Ideal.ofBits .f32 0x3F000000#32) ^^^ 1#1) &&& Scalar.cmpi .slt cnt (Scalar.subi 15#32 nv) := rfl
  rw [e, and_one, xor_one, cmp_ogt, slt_iff (by omega) (by omega), hs]
  refine and_congr_left fun _ => not_congr ?_
  constructor
  · intro hlt
    by_contra hno
    rw [sum_marks_none m fun i hi => ?_] at hlt
    · exact absurd hlt (not_lt.mpr zero_lt_half.le)
    · rw [eq_lane i] at hi
      exact hno ⟨i 1, ((hm (i 1)).mp hi).2, ((hm (i 1)).mp hi).1⟩
  · rintro ⟨l, hl, hv⟩
    exact lt_of_lt_of_le half_lt_one (sum_marks_some m (ix2 0 l) ((hm l).mpr ⟨hv, hl⟩))

end Cert.Proof.Alg

end
-- ==== Proof.Alg.Loop.lean ====
/-
  The kernel's suppression loop and its fill loops, over the extended reals: the two lists they leave are the first 15
  survivors of each kind, filled up with the smallest free indices.
-/
module

public import proofs.«01_k».proof.Proof.Alg.Words

@[expose] public section

noncomputable section

namespace Cert.Proof.Alg

open Cert.KernelIdeal Cert.KernelIdeal.Gen Cert.Proof.PI Cert.Proof.Sel
open Idealize.ShloMosaic Idealize.ShloMosaic.TcCoe

/-! ## A list in a row of lanes -/

/-- The first lanes of a selection list hold `L`, and `n` is its length. -/
def Holds (sel : S8x128.Idx → BitVec 32) (n : BitVec 32) (L : List ℕ) : Prop :=
  n.toNat = L.length ∧ ∀ l : Fin 128, l.val < L.length → L[l.val]? = some (sel (ix2 0 l)).toNat

theorem holds_put {sel : S8x128.Idx → BitVec 32} {n x c : BitVec 32} {L : List ℕ} (h : Holds sel n L) (hL : L.length < 15) (hc : c.toNat = L.length)
    {n' : BitVec 32} (hn : n'.toNat = L.length + 1) : Holds (putAt sel c x) n' (L ++ [x.toNat]) := by
  refine ⟨by rw [hn, List.length_append, List.length_singleton], fun l hl => ?_⟩
  rw [putAt_at, hc]
  by_cases e : l.val = L.length
  · rw [if_pos e, e, List.getElem?_append_right le_rfl, Nat.sub_self]
    rfl
  · rw [List.length_append, List.length_singleton] at hl
    rw [if_neg e, List.getElem?_append_left (by omega)]
    exact h.2 l (by omega)

variable (X : Ins Ideal)

/-- The positions the kernel takes: active, kept, and of the kind. -/
def kH (j : ℕ) : Prop := kAct X j ∧ Kept (kOv X) j ∧ kHum X j
def kO (j : ℕ) : Prop := kAct X j ∧ Kept (kOv X) j ∧ ¬ kHum X j

/-- The original index of a position. -/
def kG (j : ℕ) : ℕ := (at40 X.pe j : BitVec 32).toNat

/-- The marks at the start of position `t`. -/
def Marked (keep : S40x128.Idx → EReal) (t : ℕ) : Prop := ∀ n, n < 5120 → (Ideal.ofBits .f32 0x3F000000#32 < at40 keep n ↔ n < t ∧ Kept (kOv X) n)

/-- The loop at the start of position `t`. -/
structure AtPos (t : ℕ) (s : Scr Ideal) (w : PI.Words) : Prop where
  pos : w.1.toNat = t
  lt : t < 5120
  act : ∀ j, j < t → kAct X j
  keep : Marked X s.keep t
  selH : Holds s.selH w.2.1 (found (kH X) (kG X) t)
  selO : Holds s.selO w.2.2.1 (found (kO X) (kG X) t)

/-- The loop's end. -/
def Ended (s : Scr Ideal) (w : PI.Words) : Prop :=
  Holds s.selH w.2.1 (found (kH X) (kG X) 5120) ∧ Holds s.selO w.2.2.1 (found (kO X) (kG X) 5120)

theorem at40_setRow (x : S40x128.Idx → EReal) (t : BitVec 32) (ht : t.toNat < 5120) (v : EReal) (n : ℕ) (hn : n < 5120) :
    at40 (setRow x (rowIx t) (putF (F := Ideal) (row x (rowIx t)) (Scalar.andi t 127#32) v)) n = if n = t.toNat then v else at40 x n := by
  have hr := (shr7 ht).2
  have hl := lane_toNat t
  have e : at40 (setRow x (rowIx t) (putF (F := Ideal) (row x (rowIx t)) (Scalar.andi t 127#32) v)) n
      = if n / 128 % 40 = (rowIx t).val then putF (F := Ideal) (row x (rowIx t)) (Scalar.andi t 127#32) v (ix2 0 (Fin.ofNat 128 n)) else at40 x n := rfl
  rw [e, putF_at]
  have e2 : ((ix2 0 (Fin.ofNat 128 n) : S1x128.Idx) 1).val = n % 128 := rfl
  rw [e2, hl, hr]
  by_cases c : n = t.toNat
  · subst c
    rw [if_pos (by omega), if_pos rfl, if_pos rfl]
  · rw [if_neg c]
    split
    · rename_i h1
      rw [if_neg (by omega)]
      show x (ix2 (rowIx t) (Fin.ofNat 128 n)) = x (ix2 (Fin.ofNat 40 (n / 128)) (Fin.ofNat 128 n))
      congr 2
      exact Fin.ext (by rw [hr, ← h1]; rfl)
    · rfl

section Step
variable {X} {t : ℕ} {s : Scr Ideal} {w : PI.Words} (h : AtPos X t s w)
include h

theorem free_kept : isFree X s.keep w.1 = 1#1 ↔ Kept (kOv X) t := by
  have ht := h.lt
  rw [isFree_iff X s.keep w.1 (by rw [h.pos]; exact ht), h.pos, kept_iff]
  refine not_congr (exists_congr fun n => and_congr_right fun hn => ?_)
  unfold HitAt
  rw [h.keep n (by omega)]
  exact ⟨fun c => ⟨c.1, c.2.2⟩, fun c => ⟨c.1, hn, c.2⟩⟩

theorem act_iff : isAct X w.1 = 1#1 ↔ kAct X t := by
  have ht := h.lt
  rw [isAct_iff X w.1 (by rw [h.pos]; exact ht), h.pos]

theorem hum_iff : isHum X w.1 = 1#1 ↔ kHum X t := by
  have ht := h.lt
  rw [isHum_iff X w.1 (by rw [h.pos]; exact ht), h.pos]

theorem orig_eq : (origIx X w.1).toNat = kG X t := by
  have ht := h.lt
  rw [origIx_eq X w.1 (by rw [h.pos]; exact ht), h.pos]
  rfl

theorem takeH_iff : takeH (Scalar.andi (isAct X w.1) (isFree X s.keep w.1)) (isHum X w.1) w.2.1 = 1#1
    ↔ kH X t ∧ (found (kH X) (kG X) t).length < 15 := by
  have hl := found_length (kH X) (kG X) t
  have e : takeH (Scalar.andi (isAct X w.1) (isFree X s.keep w.1)) (isHum X w.1) w.2.1
      = ((isAct X w.1 &&& isFree X s.keep w.1) &&& isHum X w.1) &&& Scalar.cmpi .slt w.2.1 15#32 := rfl
  rw [e, and_one, and_one, and_one, act_iff h, free_kept h, hum_iff h, slt_iff (by rw [h.selH.1]; omega) (by decide), h.selH.1]
  unfold kH
  rw [and_assoc (a := kAct X t)]
  rfl

theorem takeO_iff : takeO (Scalar.andi (isAct X w.1) (isFree X s.keep w.1)) (isHum X w.1) w.2.2.1 = 1#1
    ↔ kO X t ∧ (found (kO X) (kG X) t).length < 15 := by
  have hl := found_length (kO X) (kG X) t
  have e : takeO (Scalar.andi (isAct X w.1) (isFree X s.keep w.1)) (isHum X w.1) w.2.2.1
      = ((isAct X w.1 &&& isFree X s.keep w.1) &&& (isHum X w.1 ^^^ 1#1)) &&& Scalar.cmpi .slt w.2.2.1 15#32 := rfl
  rw [e, and_one, and_one, and_one, xor_one, act_iff h, free_kept h, hum_iff h, slt_iff (by rw [h.selO.1]; omega) (by decide), h.selO.1]
  unfold kO
  rw [and_assoc (a := kAct X t)]
  rfl

end Step

/-- A count that goes up by one where its condition holds. -/
theorem count_next {n : BitVec 32} {m : ℕ} (hn : n.toNat = m) (hm : m ≤ 15) (b : BitVec 1) :
    (Scalar.addi n (Scalar.select b 1#32 0#32)).toNat = if b = 1#1 then m + 1 else m := by
  have e : Scalar.addi n (Scalar.select b 1#32 0#32) = n + if b = 1#1 then 1#32 else 0#32 := rfl
  rw [e]
  split
  · rw [BitVec.toNat_add, hn]; show (m + 1) % _ = _; omega
  · rw [BitVec.toNat_add, hn]; show (m + 0) % _ = _; omega

/-- A list after a candidate. -/
theorem holds_step {q : ℕ → Prop} {g : ℕ → ℕ} {t : ℕ} {sel : S8x128.Idx → BitVec 32} {n x : BitVec 32} (h : Holds sel n (found q g t)) (hx : x.toNat = g t)
    {b : BitVec 1} (hb : b = 1#1 ↔ q t ∧ (found q g t).length < 15) :
    Holds (if yes b then putAt sel n x else sel) (Scalar.addi n (Scalar.select b 1#32 0#32)) (found q g (t + 1)) := by
  have hn := count_next h.1 (found_length q g t) b
  rw [found_succ]
  by_cases c : b = 1#1
  · rw [if_pos ((yes_iff b).mpr c), if_pos (hb.mp c), ← hx]
    rw [if_pos c] at hn
    exact holds_put h (hb.mp c).2 h.1 hn
  · rw [if_neg (fun y => c ((yes_iff b).mp y)), if_neg (fun y => c (hb.mpr y))]
    rw [if_neg c] at hn
    exact ⟨hn, h.2⟩

theorem go_iff (b : BitVec 1) : Scalar.select b 1#32 0#32 = 1#32 ↔ b = 1#1 := by revert b; decide

variable (hdown : ∀ i j, i ≤ j → j < 5120 → kAct X j → kAct X i)
include hdown

/-- One step of the loop. -/
theorem step_pos {t : ℕ} {s : Scr Ideal} {w : PI.Words} (h : AtPos X t s w) :
    ((stepWords X s w.1 w.2.1 w.2.2.1).2.2.2 = 1#32 → AtPos X (t + 1) (stepScr X s w.1 w.2.1 w.2.2.1) (stepWords X s w.1 w.2.1 w.2.2.1))
      ∧ (¬ (stepWords X s w.1 w.2.1 w.2.2.1).2.2.2 = 1#32 → Ended X (stepScr X s w.1 w.2.1 w.2.2.1) (stepWords X s w.1 w.2.1 w.2.2.1)) := by
  have ht := h.lt
  have hwt : w.1.toNat < 5120 := by rw [h.pos]; exact ht
  have hH : Holds (stepScr X s w.1 w.2.1 w.2.2.1).selH (stepWords X s w.1 w.2.1 w.2.2.1).2.1 (found (kH X) (kG X) (t + 1)) :=
    holds_step h.selH (orig_eq h) (takeH_iff h)
  have hO : Holds (stepScr X s w.1 w.2.1 w.2.2.1).selO (stepWords X s w.1 w.2.1 w.2.2.1).2.2.1 (found (kO X) (kG X) (t + 1)) :=
    holds_step h.selO (orig_eq h) (takeO_iff h)
  have hnext : (stepWords X s w.1 w.2.1 w.2.2.1).1.toNat = t + 1 := (next_lt hwt).trans (by rw [h.pos])
  have hlH := found_length (kH X) (kG X) (t + 1)
  have hlO := found_length (kO X) (kG X) (t + 1)
  have hgo : (stepWords X s w.1 w.2.1 w.2.2.1).2.2.2 = 1#32 ↔
      (kAct X t ∧ t + 1 < 5120) ∧ ((found (kH X) (kG X) (t + 1)).length < 15 ∨ (found (kO X) (kG X) (t + 1)).length < 15) := by
    have e : (stepWords X s w.1 w.2.1 w.2.2.1).2.2.2 = Scalar.select
        ((isAct X w.1 &&& Scalar.cmpi .slt (stepWords X s w.1 w.2.1 w.2.2.1).1 5120#32)
          &&& (Scalar.cmpi .slt (stepWords X s w.1 w.2.1 w.2.2.1).2.1 15#32 ||| Scalar.cmpi .slt (stepWords X s w.1 w.2.1 w.2.2.1).2.2.1 15#32)) 1#32 0#32 := rfl
    rw [e, go_iff, and_one, and_one, or_one, act_iff h, slt_iff (by rw [hnext]; omega) (by decide), slt_iff (by rw [hH.1]; omega) (by decide),
      slt_iff (by rw [hO.1]; omega) (by decide), hnext, hH.1, hO.1]
    rfl
  rw [hgo]
  constructor
  · rintro ⟨⟨ha, hlt⟩, _⟩
    refine ⟨hnext, hlt, fun j hj => ?_, fun n hn => ?_, hH, hO⟩
    · exact hdown j t (by omega) ht ha
    · show _ < at40 (keepAfter X s.keep w.1) n ↔ _
      unfold keepAfter
      have hk := h.keep n hn
      by_cases c : Kept (kOv X) t
      · rw [if_pos ((cond1_iff _ _).mpr ⟨(act_iff h).mpr ha, (free_kept h).mpr c⟩), at40_setRow _ _ hwt _ _ hn, h.pos]
        by_cases e : n = t
        · rw [if_pos e, e]
          refine ⟨fun _ => ⟨by omega, c⟩, fun _ => ?_⟩
          show _ < Ideal.ofBits .f32 0x3F800000#32
          rw [Ideal.ofBits_one_f32]
          exact half_lt_one
        · rw [if_neg e, hk]
          exact ⟨fun r => ⟨by omega, r.2⟩, fun r => ⟨by omega, r.2⟩⟩
      · rw [if_neg (fun r => c ((free_kept h).mp ((cond1_iff _ _).mp r).2)), hk]
        refine ⟨fun r => ⟨by omega, r.2⟩, fun r => ⟨?_, r.2⟩⟩
        rcases Nat.lt_succ_iff_lt_or_eq.mp r.1 with q | q
        · exact q
        · exact absurd (q ▸ r.2) c
  · intro hno
    by_cases hlt : t + 1 < 5120
    · by_cases ha : kAct X t
      · have hf : 15 ≤ (found (kH X) (kG X) (t + 1)).length ∧ 15 ≤ (found (kO X) (kG X) (t + 1)).length := by
          constructor
          · by_contra c; exact hno ⟨⟨ha, hlt⟩, Or.inl (by omega)⟩
          · by_contra c; exact hno ⟨⟨ha, hlt⟩, Or.inr (by omega)⟩
        unfold Ended
        rw [found_of_full (t := t + 1) (by omega) hf.1, found_of_full (t := t + 1) (by omega) hf.2]
        exact ⟨hH, hO⟩
      · have hn : ∀ j, t + 1 ≤ j → j < 5120 → ¬ kAct X j := fun j hj hj5 hc => ha (hdown t j (by omega) hj5 hc)
        unfold Ended
        rw [found_of_none (t := t + 1) (by omega) (fun j hj hj5 hq => hn j hj hj5 hq.1), found_of_none (t := t + 1) (by omega) (fun j hj hj5 hq => hn j hj hj5 hq.1)]
        exact ⟨hH, hO⟩
    · have e : t + 1 = 5120 := by omega
      unfold Ended
      rw [← e]
      exact ⟨hH, hO⟩

omit hdown in
theorem eq_go (x : BitVec 32) : Scalar.cmpi .eq x 1#32 = 1#1 ↔ x = 1#32 := by
  show BitVec.ofBool (x == 1#32) = 1#1 ↔ _
  rw [StableHlo.Predicate.ofBool_eq_one_iff, beq_iff_eq]

theorem loop_ended : ∀ (n t : ℕ) (s : Scr Ideal) (w : PI.Words), t + n = 5120 → w.2.2.2 = 1#32 → AtPos X t s w →
    Ended X (loopTo X n s w).1 (loopTo X n s w).2
  | 0, t, s, w, hn, _, h => absurd h.lt (by omega)
  | n + 1, t, s, w, hn, hg, h => by
    obtain ⟨h1, h2⟩ := step_pos X hdown h
    rw [loopTo, if_pos ((eq_go _).mpr hg)]
    by_cases c : (stepWords X s w.1 w.2.1 w.2.2.1).2.2.2 = 1#32
    · exact loop_ended n (t + 1) _ _ (by omega) c (h1 c)
    · have e : loopTo X n (stepScr X s w.1 w.2.1 w.2.2.1) (stepWords X s w.1 w.2.1 w.2.2.1) = (stepScr X s w.1 w.2.1 w.2.2.1, stepWords X s w.1 w.2.1 w.2.2.1) := by
        cases n with
        | zero => rfl
        | succ m => rw [loopTo, if_neg (fun r => c ((eq_go _).mp r))]
      rw [e]
      exact h2 c

theorem loopEnd_ended : Ended X (loopEnd X).1 (loopEnd X).2 := by
  refine loop_ended X hdown 5120 0 _ _ rfl rfl ⟨rfl, by omega, fun j hj => absurd hj (Nat.not_lt_zero j), fun n _ => ?_, ?_, ?_⟩
  · have e : (at40 (scr0 Ideal).keep n : EReal) = 0 := Ideal.ofBits_zero_f32
    rw [e]
    exact ⟨fun c => absurd c (not_lt.mpr zero_lt_half.le), fun c => absurd c.1 (Nat.not_lt_zero n)⟩
  · exact ⟨rfl, fun l hl => absurd hl (Nat.not_lt_zero _)⟩
  · exact ⟨rfl, fun l hl => absurd hl (Nat.not_lt_zero _)⟩

omit hdown X in
/-- A fill loop. -/
theorem fill_facts {nv : BitVec 32} {sel : S8x128.Idx → BitVec 32} {L : List ℕ} (h : Holds sel nv L) (hL : L.length ≤ 15) : ∀ k, k ≤ 30 →
    (fillTo Ideal nv sel k).2.toNat = (filled L k).length - L.length ∧ (filled L k).length ≤ 15 ∧ L.length ≤ (filled L k).length ∧
      ∀ l : Fin 128, l.val < (filled L k).length → (filled L k)[l.val]? = some ((fillTo Ideal nv sel k).1 (ix2 0 l)).toNat
  | 0, _ => by
    rw [filled_zero]
    exact ⟨(Nat.sub_self _).symm, hL, le_rfl, h.2⟩
  | k + 1, hk => by
    obtain ⟨hc, hle, hge, hv⟩ := fill_facts h hL k (by omega)
    have hiv : (Scf.iv 0#32 1#32 k).toNat = k := iv_toNat (by omega)
    have hmem : (∃ l : Fin 128, l.val < nv.toNat ∧ row (fillTo Ideal nv sel k).1 0 (ix2 0 l) = Scf.iv 0#32 1#32 k) ↔ k ∈ L := by
      have hpre : ∀ l : Fin 128, l.val < L.length → L[l.val]? = some ((fillTo Ideal nv sel k).1 (ix2 0 l)).toNat := fun l hl => by
        rw [← hv l (by omega)]
        unfold filled
        rw [List.getElem?_append_left hl]
      constructor
      · rintro ⟨l, hl, e⟩
        rw [h.1] at hl
        have := hpre l hl
        rw [show (fillTo Ideal nv sel k).1 (ix2 0 l) = Scf.iv 0#32 1#32 k from e, hiv] at this
        exact List.mem_of_getElem? this
      · intro hm
        obtain ⟨i, hi, e⟩ := List.mem_iff_getElem.mp hm
        have hp := hpre ⟨i, by omega⟩ hi
        rw [List.getElem?_eq_getElem hi, e, Option.some.injEq] at hp
        exact ⟨⟨i, by omega⟩, by rw [h.1]; exact hi, BitVec.eq_of_toNat_eq (by rw [hiv]; exact hp.symm)⟩
    have htk := fillTake_iff nv (Scf.iv 0#32 1#32 k) (fillTo Ideal nv sel k).2 (row (fillTo Ideal nv sel k).1 0) (by rw [h.1]; exact hL) (by rw [hc]; omega)
    rw [hmem, hc, h.1] at htk
    have e1 : (fillTo Ideal nv sel (k + 1)).1 = if yes (fillTake (F := Ideal) nv (Scf.iv 0#32 1#32 k) (fillTo Ideal nv sel k).2 (row (fillTo Ideal nv sel k).1 0))
        then putAt (fillTo Ideal nv sel k).1 (Scalar.addi nv (fillTo Ideal nv sel k).2) (Scf.iv 0#32 1#32 k) else (fillTo Ideal nv sel k).1 := rfl
    have e2 : (fillTo Ideal nv sel (k + 1)).2 = Scalar.addi (fillTo Ideal nv sel k).2
        (Scalar.select (fillTake (F := Ideal) nv (Scf.iv 0#32 1#32 k) (fillTo Ideal nv sel k).2 (row (fillTo Ideal nv sel k).1 0)) 1#32 0#32) := rfl
    have hn := count_next hc (by omega) (fillTake (F := Ideal) nv (Scf.iv 0#32 1#32 k) (fillTo Ideal nv sel k).2 (row (fillTo Ideal nv sel k).1 0))
    rw [e1, e2, filled_succ, hn]
    by_cases c : fillTake (F := Ideal) nv (Scf.iv 0#32 1#32 k) (fillTo Ideal nv sel k).2 (row (fillTo Ideal nv sel k).1 0) = 1#1
    · rw [if_pos c, if_pos ((yes_iff _).mpr c), if_pos (htk.mp c)]
      have arith : ∀ a b : ℕ, a ≤ b → b ≤ 15 → b - a < 15 - a →
          b < 15 ∧ (a + (b - a)) % 2 ^ 32 = b ∧ (b + 1) % 2 ^ 32 = b + 1 ∧ b - a + 1 = b + 1 - a ∧ b + 1 ≤ 15 ∧ a ≤ b + 1 := by
        intro a b h1 h2 h3
        refine ⟨?_, ?_, ?_, ?_, ?_, ?_⟩ <;> omega
      obtain ⟨r1, r2, r3, r4, r5, r6⟩ := arith _ _ hge hle (htk.mp c).2
      have hcur : (Scalar.addi nv (fillTo Ideal nv sel k).2).toNat = (filled L k).length := by
        show (nv + (fillTo Ideal nv sel k).2).toNat = _
        rw [BitVec.toNat_add, h.1, hc, r2]
      have hp := holds_put (n := Scalar.addi nv (fillTo Ideal nv sel k).2) (x := Scf.iv 0#32 1#32 k) (n' := BitVec.ofNat 32 ((filled L k).length + 1)) ⟨hcur, hv⟩ r1 hcur
        (by rw [BitVec.toNat_ofNat, r3])
      rw [hiv] at hp
      rw [List.length_append, List.length_singleton]
      exact ⟨r4, r5, r6, by rw [← List.length_singleton (a := k), ← List.length_append]; exact hp.2⟩
    · rw [if_neg c, if_neg (fun r => c ((yes_iff _).mp r)), if_neg (fun r => c (htk.mpr r))]
      exact ⟨rfl, hle, hge, hv⟩

/-- The kernel's two lists. -/
def kListH : List ℕ := filled (found (kH X) (kG X) 5120) 30
def kListO : List ℕ := filled (found (kO X) (kG X) 5120) 30

theorem listH_at (l : ℕ) (hl : l < 15) : (kListH X)[l]? = some (pickAt (listH X) l).toNat := by
  have hf := found_length (kH X) (kG X) 5120
  obtain ⟨_, _, _, hv⟩ := fill_facts (loopEnd_ended X hdown).1 hf 30 le_rfl
  rw [pickAt_eq _ l (by omega)]
  exact hv ⟨l, by omega⟩ (by show l < (filled _ 30).length; rw [filled_length _ hf]; exact hl)

theorem listO_at (l : ℕ) (hl : l < 15) : (kListO X)[l]? = some (pickAt (listO X) l).toNat := by
  have hf := found_length (kO X) (kG X) 5120
  obtain ⟨_, _, _, hv⟩ := fill_facts (loopEnd_ended X hdown).2 hf 30 le_rfl
  rw [pickAt_eq _ l (by omega)]
  exact hv ⟨l, by omega⟩ (by show l < (filled _ 30).length; rw [filled_length _ hf]; exact hl)

end Cert.Proof.Alg

end
-- ==== Proof.Sel.Stable.lean ====
/-
  A stable sort by a key is the sort by the key and then the position; from this, the first places of such a sort, given as
  a list that is in order and misses nothing that would come before.
-/
module

public import Idealize.ShloMosaic.Lib.SortPrefix
public import Mathlib.Data.EReal.Operations

@[expose] public section

noncomputable section

namespace Cert.Proof.Sel

open Idealize.ShloMosaic

open scoped Classical

variable {n : ℕ} {κ : Type} [LinearOrder κ]

/-- Smaller key first, then the smaller position. -/
def keyPos (key : Fin n → κ) (k k' : Fin n) : Bool := decide (key k < key k') || (decide (key k = key k') && decide (k < k'))

theorem keyPos_iff (key : Fin n → κ) (k k' : Fin n) : keyPos key k k' = true ↔ key k < key k' ∨ (key k = key k' ∧ k < k') := by
  simp [keyPos]

theorem keyPos_false (key : Fin n → κ) (k k' : Fin n) : keyPos key k k' = false ↔ key k' ≤ key k ∧ (key k = key k' → k' ≤ k) := by
  rw [← Bool.not_eq_true, keyPos_iff]
  simp

theorem keyPos_strict (key : Fin n → κ) : StrictTotalBefore (keyPos key) where
  irrefl k := by rw [keyPos_false]; exact ⟨le_rfl, fun _ => le_rfl⟩
  trans a b c hab hbc := by
    rw [keyPos_iff] at *
    rcases hab with hab | ⟨eab, lab⟩ <;> rcases hbc with hbc | ⟨ebc, lbc⟩
    · exact Or.inl (lt_trans hab hbc)
    · exact Or.inl (ebc ▸ hab)
    · exact Or.inl (eab ▸ hbc)
    · exact Or.inr ⟨eab.trans ebc, lt_trans lab lbc⟩
  total a b hne := by
    rw [keyPos_iff, keyPos_iff]
    rcases lt_trichotomy (key a) (key b) with h | h | h
    · exact Or.inl (Or.inl h)
    · rcases lt_or_gt_of_ne hne with hlt | hgt
      · exact Or.inl (Or.inr ⟨h, hlt⟩)
      · exact Or.inr (Or.inr ⟨h.symm, hgt⟩)
    · exact Or.inr (Or.inl h)

/-- Two relations that agree on a later element against an earlier one sort a list alike. -/
theorem stableSort_agree {ι : Type} (R R' : ι → ι → Bool) (l : List ι) (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The stable sort by a key. -/
theorem sortedFrom_key (B : Fin n → Fin n → Bool) (key : Fin n → κ) (hB : ∀ k k', B k k' = true ↔ key k < key k') : sortedFrom B = sortedFrom (keyPos key) := by
  have e : sortPositions n B = sortPositions n (keyPos key) := by
    unfold sortPositions
    refine stableSort_agree _ _ _ ((List.pairwise_lt_finRange n).imp fun {a b} hab => ?_)
    rw [Bool.eq_iff_iff, hB, keyPos_iff]
    constructor
    · exact Or.inl
    · rintro (h | ⟨_, h⟩)
      · exact h
      · exact absurd h (not_lt.mpr hab.le)
  funext k
  unfold sortedFrom
  rw [List.get_of_eq e]
  rfl

/-- The sorted positions are in order. -/
theorem sortedFrom_order (key : Fin n → κ) {i j : Fin n} (h : i < j) :
    key (sortedFrom (keyPos key) i) < key (sortedFrom (keyPos key) j) ∨
      (key (sortedFrom (keyPos key) i) = key (sortedFrom (keyPos key) j) ∧ sortedFrom (keyPos key) i < sortedFrom (keyPos key) j) := by
  have hs := keyPos_strict key
  have hf : keyPos key (sortedFrom (keyPos key) j) (sortedFrom (keyPos key) i) = false :=
    sortedFrom_noInversion (keyPos key) (keyPos key) (fun a b h => hs.asymm a b h) (fun _ _ h => h) (fun a b c => hs.negTrans a b c) i j h
  rcases hs.total (sortedFrom (keyPos key) i) (sortedFrom (keyPos key) j) (fun e => absurd (sortedFrom_injective _ e) h.ne) with h' | h'
  · exact (keyPos_iff _ _ _).mp h'
  · rw [hf] at h'; exact absurd h' (by decide)

/-- A list of all positions, in order: its places are the sort's. -/
theorem sortedFrom_of_list (key : Fin n → κ) (l : List (Fin n)) (hall : ∀ x, x ∈ l) (hs : l.Pairwise fun a b => keyPos key a b = true) (i : Fin n) :
    l[i.val]? = some (sortedFrom (keyPos key) i) := by
  have hst := keyPos_strict key
  have hnd : l.Nodup := hs.imp fun {a b} h e => by subst e; rw [hst.irrefl] at h; exact absurd h (by decide)
  have hp : l.Perm (List.finRange n) := (List.perm_ext_iff_of_nodup hnd (List.nodup_finRange n)).mpr fun x => ⟨fun _ => List.mem_finRange x, fun _ => hall x⟩
  have e : l = stableSort (keyPos key) (List.finRange n) := hst.eq_stableSort_of_sorted hp (hs.imp fun {a b} h => hst.asymm a b h)
  unfold sortedFrom
  rw [List.get_eq_getElem, ← List.getElem?_eq_getElem]
  exact congrArg (fun l => l[i.val]?) e

end Cert.Proof.Sel

end
-- ==== Proof.Sel.TopK.lean ====
/-
  The first 15 places of a sort by masked scores: where the scores of all but the chosen are replaced by the least value, the
  sort begins with the chosen in the order of their scores, then everything else in the order of the positions.
-/
module

public import proofs.«01_k».proof.Proof.Sel.Lists
public import proofs.«01_k».proof.Proof.Sel.Stable

@[expose] public section

noncomputable section

namespace Cert.Proof.Sel

open Idealize.ShloMosaic

open scoped Classical

/-- Nothing is chosen beyond `n`. -/
theorem chosen_of_bound {q : ℕ → Prop} {g : ℕ → ℕ} {n m : ℕ} (hnm : n ≤ m) (hq : ∀ j, q j → j < n) : chosen q g m = chosen q g n := by
  induction m, hnm using Nat.le_induction with
  | base => rfl
  | succ m hm ih =>
    rw [chosen_succ, if_neg (fun c => absurd (hq m c) (by omega))]
    exact ih

theorem range_eq (n : ℕ) : List.range n = (List.finRange n).map Fin.val := by
  refine List.ext_getElem (by simp) fun i h1 h2 => ?_
  simp

section
variable (n : ℕ) (s M : Fin n → EReal) (q : ℕ → Prop)

/-- The order of decreasing `s`. -/
abbrev down (s : Fin n → EReal) : Fin n → Fin n := sortedFrom (keyPos fun k => -s k)

/-- The chosen positions' sources, then the others. -/
def firstPart : List (Fin n) := ((List.finRange n).filter fun j => decide (q j.val)).map (down n s)
def allParts : List (Fin n) := firstPart n s q ++ (List.finRange n).filter fun p => decide (p ∉ firstPart n s q)

theorem mem_firstPart (p : Fin n) : p ∈ firstPart n s q ↔ ∃ j : Fin n, q j.val ∧ down n s j = p := by
  unfold firstPart
  simp [List.mem_map, List.mem_filter]

variable {n s M q}
variable (hM : ∀ j : Fin n, M (down n s j) = if q j.val then s (down n s j) else ⊥) (hb : ∀ j : Fin n, q j.val → ⊥ < s (down n s j))
include hM hb

theorem allParts_sorted : (allParts n s q).Pairwise fun a b => keyPos (fun k => -M k) a b = true := by
  unfold allParts
  have hrest : ∀ p : Fin n, p ∉ firstPart n s q → M p = ⊥ := fun p hp => by
    obtain ⟨j, rfl⟩ := sortedFrom_surjective (keyPos fun k => -s k) p
    rw [hM, if_neg fun c => hp ((mem_firstPart n s q _).mpr ⟨j, c, rfl⟩)]
  refine List.pairwise_append.mpr ⟨?_, ?_, ?_⟩
  · unfold firstPart
    rw [List.pairwise_map]
    refine List.Pairwise.imp_of_mem (fun {i j} hi hj hij => ?_) ((List.pairwise_lt_finRange n).filter _)
    have qi : q i.val := of_decide_eq_true (List.mem_filter.mp hi).2
    have qj : q j.val := of_decide_eq_true (List.mem_filter.mp hj).2
    rw [keyPos_iff, hM, hM, if_pos qi, if_pos qj]
    exact sortedFrom_order (fun k => -s k) hij
  · refine List.Pairwise.imp_of_mem (fun {i j} hi hj hij => ?_) ((List.pairwise_lt_finRange n).filter _)
    rw [keyPos_iff, hrest i (of_decide_eq_true (List.mem_filter.mp hi).2), hrest j (of_decide_eq_true (List.mem_filter.mp hj).2)]
    exact Or.inr ⟨rfl, hij⟩
  · intro a ha b hb'
    obtain ⟨j, qj, rfl⟩ := (mem_firstPart n s q a).mp ha
    rw [keyPos_iff, hM, if_pos qj, hrest b (of_decide_eq_true (List.mem_filter.mp hb').2)]
    exact Or.inl (EReal.neg_lt_neg_iff.mpr (hb j qj))

/-- The first places of the masked sort. -/
theorem masked_sort {m : ℕ} {g : ℕ → ℕ} (hn : 30 ≤ n) (hm : n ≤ m) (hq : ∀ j, q j → j < n) (hg : ∀ j : Fin n, g j.val = (down n s j).val) (l : ℕ) (hl : l < 15) :
    (filled (found q g m) 30)[l]? = some (down n M ⟨l, by omega⟩).val := by
  have hall : ∀ x, x ∈ allParts n s q := fun x => by
    unfold allParts
    by_cases h : x ∈ firstPart n s q
    · exact List.mem_append_left _ h
    · exact List.mem_append_right _ (List.mem_filter.mpr ⟨List.mem_finRange x, decide_eq_true h⟩)
  have key := sortedFrom_of_list (fun k => -M k) _ hall (allParts_sorted hM hb) ⟨l, by omega⟩
  have e1 : chosen q g m = (firstPart n s q).map Fin.val := by
    rw [chosen_of_bound hm hq]
    unfold chosen firstPart
    rw [range_eq, List.filter_map, List.map_map, List.map_map]
    refine List.map_congr_left fun j _ => hg j
  have e2 : ((List.range n).filter fun o => decide (o ∉ (firstPart n s q).map Fin.val))
      = ((List.finRange n).filter fun p => decide (p ∉ firstPart n s q)).map Fin.val := by
    rw [range_eq, List.filter_map]
    congr 1
    refine List.filter_congr fun p _ => ?_
    simp only [Function.comp, decide_eq_decide, List.mem_map, not_iff_not]
    exact ⟨fun ⟨a, ha, e⟩ => Fin.ext e ▸ ha, fun h => ⟨p, h, rfl⟩⟩
  have e3 : filled (found q g m) 30 = ((allParts n s q).map Fin.val).take 15 := by
    unfold found allParts
    rw [← take_all _ n hn, e1, e2, List.map_append]
  rw [e3, List.getElem?_take_of_lt hl, List.getElem?_map, key]
  rfl

end

end Cert.Proof.Sel

end
-- ==== Proof.Alg.Sorted.lean ====
/-
  The kernel's operands over the extended reals, read at a position: the scores are those of the boxes in decreasing order, so
  the active positions are the first ones.
-/
module

public import proofs.«01_k».proof.Proof.PI.Order
public import proofs.«01_k».proof.Proof.Alg.Loop
public import proofs.«01_k».proof.Proof.Sel.TopK
public import Idealize.ShloMosaic.Lib.Routing.OpsSet

@[expose] public section

noncomputable section

namespace Cert.Proof.Alg

open Cert.KernelIdeal Cert.KernelIdeal.Gen Cert.Proof.PI Cert.Proof.Sel
open Idealize.ShloMosaic Idealize.ShloMosaic.TcCoe

theorem sel_at {α : Type} (b : BitVec 1) (x y : α) : Scalar.select b x y = if b = 1#1 then x else y := rfl

/-- The comparator of the sort: the smaller first. -/
theorem comparator_iff (a b : EReal × BitVec 32) : comparator_f32_i32_d0 (F := Ideal) a b = 1#1 ↔ a.1 < b.1 := by
  have canon : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := fun x => by
    have e1 : Ideal.cmp .une x x = 0#1 := by
      show BitVec.ofBool (decide (x ≠ x)) = _
      rw [decide_eq_false (fun h => h rfl)]; rfl
    rw [e1, sel_at, if_neg (by decide), sel_at]
    by_cases h : x = Ideal.ofBits .f32 0x00000000#32
    · rw [if_pos ((cmp_oeq _ _).mpr h), ← h]
    · rw [if_neg (fun c => h ((cmp_oeq _ _).mp c))]
  have e : comparator_f32_i32_d0 (F := Ideal) a b = Ideal.cmp .olt
      (Scalar.select (Ideal.cmp .une a.1 a.1) (Ideal.ofBits .f32 0x7FC00000#32)
        (Scalar.select (Ideal.cmp .oeq a.1 (Ideal.ofBits .f32 0x00000000#32)) (Ideal.ofBits .f32 0x00000000#32) a.1))
      (Scalar.select (Ideal.cmp .une b.1 b.1) (Ideal.ofBits .f32 0x7FC00000#32)
        (Scalar.select (Ideal.cmp .oeq b.1 (Ideal.ofBits .f32 0x00000000#32)) (Ideal.ofBits .f32 0x00000000#32) b.1)) := rfl
  rw [e, canon, canon]
  exact cmp_olt _ _

section
variable (B : FVec Ideal S5000x4 .f32) (S : FVec Ideal S5000 .f32) (L : IVec S5000 32)

/-- The scores by position. -/
abbrev scoreOf (k : Fin 5000) : EReal := S (ix1 k)

/-- The box at a place of the order. -/
abbrev src : Fin 5000 → Fin 5000 := down 5000 (scoreOf S)

theorem beforeOf_sorted : sortedFrom (beforeOf S) = src S :=
  sortedFrom_key (beforeOf S) (fun k => -scoreOf S k) fun k k' => by
    unfold beforeOf
    rw [beq_iff_eq, comparator_iff]
    rfl

theorem order_at (i : Fin 5000) : PI.orderOf S (ix1 i) = BitVec.ofNat 32 (src S i).val := by
  rw [orderOf_at, beforeOf_sorted]

/-- The scores decrease along the order. -/
theorem score_anti {i j : Fin 5000} (h : i ≤ j) : scoreOf S (src S j) ≤ scoreOf S (src S i) := by
  rcases eq_or_lt_of_le h with rfl | h
  · exact le_rfl
  · rcases sortedFrom_order (fun k => -scoreOf S k) h with c | ⟨c, _⟩
    · exact (EReal.neg_lt_neg_iff.mp c).le
    · exact (neg_injective c).ge

/-- A column of row numbers, none negative, is the row numbers. -/
theorem wrap_row {n : ℕ} (o : BitVec 32) (h : o.toNat < 2 ^ 31) :
    Scalar.select (Scalar.cmpi .slt o 0#32) (Scalar.addi o (BitVec.ofNat 32 n)) o = o := by
  have e : ¬ Scalar.cmpi .slt o 0#32 = 1#1 := by
    rw [slt_iff h (by decide)]
    exact Nat.not_lt_zero _
  rw [sel_at, if_neg e]

theorem asRows_at (o : IVec S5000 32) (i : Fin 5000) (h : (o (ix1 i)).toNat < 2 ^ 31) : asRows o (ix2 i 0) = o (ix1 i) := by
  have e : asRows o (ix2 i 0) = Scalar.select (Scalar.cmpi .slt (o (ix1 i)) 0#32) (Scalar.addi (o (ix1 i)) 5000#32) (o (ix1 i)) := by
    unfold asRows
    simp only [pointwise]
    rfl
  rw [e]
  exact wrap_row (n := 5000) _ h

theorem rows_at (i : Fin 5000) : asRows (PI.orderOf S) (ix2 i 0) = BitVec.ofNat 32 (src S i).val := by
  rw [asRows_at _ _ (lt_trans (orderOf_lt S _) (by decide)), order_at]

/-- A vector gathered by the order. -/
theorem gather_order {α : Type} (x : S5000.Idx → α) (i : Fin 5000) :
    Host.gather gather_S5000_S5000x1_S5000_n_0_n_n_0_1_1 x (asRows (PI.orderOf S)) (ix1 i) = x (ix1 (src S i)) :=
  Routing.gather_take1 _ rfl rfl rfl rfl x _ i (src S i) (rows_at S i) (by decide)

/-- A padded vector at a position. -/
theorem at40_padded {α : Type} (x : S5000.Idx → α) (z : S_.Idx → α) (n : ℕ) (hn : n < 5120) :
    at40 (padded x z) n = if h : n < 5000 then x (ix1 ⟨n, h⟩) else z ix0 := by
  unfold at40
  rw [padded_at]
  have e : (Fin.ofNat 40 (n / 128)).val * 128 + (Fin.ofNat 128 n).val = n := by
    show n / 128 % 40 * 128 + n % 128 = n
    omega
  simp only [e]

theorem minus_one : Ideal.ofBits .f32 0xBF800000#32 < Ideal.ofBits .f32 0x3E4CCCCD#32 := by
  have e1 : Ideal.ofBits .f32 0xBF800000#32 = ((-1 : ℝ) : EReal) := by simp [Ideal.ofBits, Ideal.ieee, -EReal.coe_mul]; norm_num
  have e2 : (0 : EReal) ≤ Ideal.ofBits .f32 0x3E4CCCCD#32 := by
    simp [Ideal.ofBits, Ideal.ieee, -EReal.coe_mul]
  rw [e1]
  exact lt_of_lt_of_le (by rw [← EReal.coe_zero, EReal.coe_lt_coe_iff]; norm_num) e2

/-- The threshold on the scores. -/
abbrev thr : EReal := Ideal.ofBits .f32 0x3E4CCCCD#32

theorem kAct_iff (n : ℕ) (hn : n < 5120) : kAct (insOf B S L) n ↔ ∃ h : n < 5000, thr ≤ scoreOf S (src S ⟨n, h⟩) := by
  have e : (at40 (insOf B S L).sc n : EReal) = _ := at40_padded (Host.gather gather_S5000_S5000x1_S5000_n_0_n_n_0_1_1 S (asRows (PI.orderOf S))) (constant S_ .f32 0xBF800000#32) n hn
  unfold kAct
  rw [e]
  by_cases h : n < 5000
  · rw [dif_pos h, gather_order]
    exact ⟨fun c => ⟨h, c⟩, fun ⟨_, c⟩ => c⟩
  · rw [dif_neg h]
    exact ⟨fun c => absurd minus_one (not_lt.mpr c), fun ⟨c, _⟩ => absurd c h⟩

theorem kAct_down (i j : ℕ) (hij : i ≤ j) (hj : j < 5120) (h : kAct (insOf B S L) j) : kAct (insOf B S L) i := by
  obtain ⟨h5, ha⟩ := (kAct_iff B S L j hj).mp h
  exact (kAct_iff B S L i (by omega)).mpr ⟨by omega, ha.trans (score_anti S (by show i ≤ j; exact hij))⟩

theorem kHum_iff (n : Fin 5000) : kHum (insOf B S L) n.val ↔ L (ix1 (src S n)) = 0#32 := by
  have e : (at40 (insOf B S L).hu n.val : BitVec 32) = _ := at40_padded (extui 32 (cmpi .eq (Host.gather gather_S5000_S5000x1_S5000_n_0_n_n_0_1_1 L (asRows (PI.orderOf S)))
    (broadcastInDim S5000 ![] bcast_S_S5000 (constantI S_ 32 0#32))) natLt_1_32) (constantI S_ 32 0#32) n.val (lt_trans n.isLt (by decide))
  rw [dif_pos n.isLt] at e
  have e2 : (at40 (insOf B S L).hu n.val : BitVec 32) = (BitVec.ofBool (L (ix1 (src S n)) == 0#32)).setWidth 32 := by
    rw [e, ← gather_order S L n]
    simp only [pointwise]
    rfl
  unfold kHum
  rw [e2, half_eq, EReal.coe_lt_coe_iff]
  by_cases h : L (ix1 (src S n)) = 0#32
  · rw [h]
    have e1 : (BitVec.setWidth 32 (BitVec.ofBool (0#32 == 0#32))).toInt = 1 := by decide
    rw [e1]
    exact ⟨fun _ => rfl, fun _ => by norm_num⟩
  · rw [beq_false_of_ne h]
    refine ⟨fun c => ?_, fun c => absurd c h⟩
    norm_num at c

theorem kG_eq (n : Fin 5000) : kG (insOf B S L) n.val = (src S n).val := by
  have e : (at40 (insOf B S L).pe n.val : BitVec 32) = _ := at40_padded (PI.orderOf S) (constantI S_ 32 0#32) n.val (lt_trans n.isLt (by decide))
  rw [dif_pos n.isLt] at e
  unfold kG
  rw [e]
  have e2 : PI.orderOf S (ix1 n) = _ := order_at S n
  rw [show (ix1 ⟨n.val, n.isLt⟩ : S5000.Idx) = ix1 n from rfl, e2, BitVec.toNat_ofNat, Nat.mod_eq_of_lt (lt_trans (src S n).isLt (by decide))]

end

end Cert.Proof.Alg

end
-- ==== Proof.Alg.RefKeep.lean ====
/-
  The reference's loop over the extended reals: its overlaps are the kernel's, and after `k` trips the marks it carries are
  those of the first `k` positions.
-/
module

public import proofs.«01_k».proof.Proof.RI.Lines
public import proofs.«01_k».proof.Proof.Alg.Sorted
public import Idealize.ShloMosaic.Lib.Routing.OpsOne
public import Idealize.ShloMosaic.Lib.DynamicIndex

@[expose] public section

noncomputable section

namespace Cert.Proof.Alg

open Cert.ReferenceIdeal Cert.ReferenceIdeal.Gen Cert.ReferenceIdeal.Value Cert.Proof.Sel Cert.Proof.RI
open Idealize.ShloMosaic Idealize.ShloMosaic.TcCoe Idealize.ShloMosaic.StableHlo
open scoped Classical

/-! ## The overlaps -/

section Overlap
variable (M : FVec Ideal S5000x4 .f32)

theorem col0_at (n : Fin 5000) : PI.col0 M (ix1 n) = M (ix2 n 0) := by
  unfold PI.col0; simp only [pointwise]; exact congrArg (fun q => M (ix2 q 0)) (Fin.ext (Nat.zero_add n.val))
theorem col1_at (n : Fin 5000) : PI.col1 M (ix1 n) = M (ix2 n 1) := by
  unfold PI.col1; simp only [pointwise]; exact congrArg (fun q => M (ix2 q 1)) (Fin.ext (Nat.zero_add n.val))
theorem col2_at (n : Fin 5000) : PI.col2 M (ix1 n) = M (ix2 n 2) := by
  unfold PI.col2; simp only [pointwise]; exact congrArg (fun q => M (ix2 q 2)) (Fin.ext (Nat.zero_add n.val))
theorem col3_at (n : Fin 5000) : PI.col3 M (ix1 n) = M (ix2 n 3) := by
  unfold PI.col3; simp only [pointwise]; exact congrArg (fun q => M (ix2 q 3)) (Fin.ext (Nat.zero_add n.val))

theorem byFirst_at (N : FVec Ideal S5000x2 .f32) (i j : Fin 5000) (a : Fin 2) : byFirst N (ix3 i j a) = N (ix2 i a) := by
  unfold byFirst; simp only [pointwise]; rfl
theorem bySecond_at (N : FVec Ideal S5000x2 .f32) (i j : Fin 5000) (a : Fin 2) : bySecond N (ix3 i j a) = N (ix2 j a) := by
  unfold bySecond; simp only [pointwise]; rfl

theorem low_at (i : Fin 5000) (a : Fin 2) : extractStridedSlice S5000x2 ![0, 0] M slices_S5000x4_S5000x2_0_0 (ix2 i a) = M (ix2 i ⟨a.val, by omega⟩) := by
  simp only [pointwise]; exact congrArg₂ (fun q r => M (ix2 q r)) (Fin.ext (Nat.zero_add i.val)) (Fin.ext (Nat.zero_add a.val))
theorem high_at (i : Fin 5000) (a : Fin 2) : extractStridedSlice S5000x2 ![0, 2] M slices_S5000x4_S5000x2_0_2 (ix2 i a) = M (ix2 i ⟨2 + a.val, by omega⟩) := by
  simp only [pointwise]; exact congrArg (fun q => M (ix2 q _)) (Fin.ext (Nat.zero_add i.val))

theorem common_at (D : FVec Ideal S5000x5000x2 .f32) (i j : Fin 5000) : commonOf D (ix2 i j) = (D (ix3 i j 0) * D (ix3 i j 1) : EReal) := by
  unfold commonOf; simp only [pointwise]
  exact congrArg₂ (fun q r => (D (ix3 q r 0) * D (ix3 q r 1) : EReal)) (Fin.ext (Nat.zero_add i.val)) (Fin.ext (Nat.zero_add j.val))

theorem ratio_at (A A' : FVec Ideal S5000 .f32) (D : FVec Ideal S5000x5000x2 .f32) (i j : Fin 5000) :
    ratioOf A A' D (ix2 i j) = Ideal.div (commonOf D (ix2 i j)) ((A (ix1 i) + A' (ix1 j)) - commonOf D (ix2 i j) + Ideal.ofBits .f32 0x3089705F#32) := by
  unfold ratioOf; simp only [pointwise]; rfl

theorem clip_at (i j : Fin 5000) (a : Fin 2) : clipOf (spanOf M) (ix3 i j a)
    = max (min (M (ix2 j ⟨2 + a.val, by omega⟩)) (M (ix2 i ⟨2 + a.val, by omega⟩))
        - max (M (ix2 j ⟨a.val, by omega⟩)) (M (ix2 i ⟨a.val, by omega⟩))) (0 : EReal) := by
  have e : clipOf (spanOf M) (ix3 i j a) = max (Ideal.ofBits .f32 0x00000000#32)
      (min (byFirst (extractStridedSlice S5000x2 ![0, 2] M slices_S5000x4_S5000x2_0_2) (ix3 i j a)) (bySecond (extractStridedSlice S5000x2 ![0, 2] M slices_S5000x4_S5000x2_0_2) (ix3 i j a))
        - max (byFirst (extractStridedSlice S5000x2 ![0, 0] M slices_S5000x4_S5000x2_0_0) (ix3 i j a)) (bySecond (extractStridedSlice S5000x2 ![0, 0] M slices_S5000x4_S5000x2_0_0) (ix3 i j a))) := rfl
  rw [e, byFirst_at, bySecond_at, byFirst_at, bySecond_at, low_at, low_at, high_at, high_at, Ideal.ofBits_zero_f32, max_comm (0 : EReal),
    min_comm (M (ix2 i ⟨2 + a.val, _⟩)), max_comm (M (ix2 i ⟨a.val, _⟩))]

theorem overlap_at (i j : Fin 5000) : ratioOf (areaOf M) (areaOf M) (clipOf (spanOf M)) (ix2 i j)
    = iouOf (M (ix2 i 0)) (M (ix2 i 1)) (M (ix2 i 2)) (M (ix2 i 3)) (areaOf M (ix1 i))
        (M (ix2 j 0)) (M (ix2 j 1)) (M (ix2 j 2)) (M (ix2 j 3)) (areaOf M (ix1 j)) := by
  rw [ratio_at, common_at, clip_at, clip_at]
  rfl

end Overlap

section
variable (B : FVec Ideal S5000x4 .f32) (S : FVec Ideal S5000 .f32) (L : IVec S5000 32)

theorem at40_in {α : Type} (x : S5000.Idx → α) (z : S_.Idx → α) (n : Fin 5000) : at40 (PI.padded x z) n.val = x (ix1 n) := by
  rw [at40_padded _ _ _ (lt_trans n.isLt (by decide)), dif_pos n.isLt]

/-- The reference's overlaps are the kernel's. -/
theorem overlap_eq (i j : Fin 5000) :
    ratioOf (areaOf (PI.sortedBoxes B S L)) (areaOf (PI.sortedBoxes B S L)) (clipOf (spanOf (PI.sortedBoxes B S L))) (ix2 i j)
      = kIou (PI.insOf B S L) i.val j.val := by
  rw [overlap_at]
  unfold kIou PI.insOf
  simp only [at40_in, col0_at, col1_at, col2_at, col3_at]
  rfl

end

/-! ## A trip -/

/-- A fold by "or" is one exactly when it started so or meets a one. -/
theorem foldl_or {α : Type} (f : α → BitVec 1) (l : List α) : ∀ b : BitVec 1,
    l.foldl (fun r n => IntOp.ori r (f n)) b = 1#1 ↔ b = 1#1 ∨ ∃ n ∈ l, f n = 1#1 := by
  induction l with
  | nil => intro b; simp
  | cons a l ih =>
    intro b
    rw [List.foldl_cons, ih]
    have e : IntOp.ori b (f a) = 1#1 ↔ b = 1#1 ∨ f a = 1#1 := or_one _ _
    rw [e]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

theorem any_iff (x : IVec S5000 1) (i : S_.Idx) :
    Host.reduce IntOp.ori x (constantI S_ 1 0#1) reducesTo_S5000_S_d0 h_S_ i = 1#1 ↔ ∃ j : Fin 5000, x (ix1 j) = 1#1 := by
  unfold Host.reduce
  rw [foldl_or]
  constructor
  · rintro (h | ⟨n, _, h⟩)
    · exact absurd h (by decide : ¬ (0#1 = 1#1))
    · exact ⟨(S5000.rowMajor.symm n) 0, by rw [← eq_ix1]; exact h⟩
  · rintro ⟨j, h⟩
    refine Or.inr ⟨S5000.rowMajor (ix1 j), List.mem_filter.2 ⟨List.mem_finRange _, ?_⟩, ?_⟩
    · rw [decide_eq_true_eq]
      exact funext fun a => a.elim0
    · rw [Equiv.symm_apply_apply]; exact h

theorem toInt_small (a : ℕ) (ha : a < 5000) : (BitVec.ofNat 32 a).toInt = (a : Int) := by
  have e : (BitVec.ofNat 32 a).toNat = a := by rw [BitVec.toNat_ofNat]; exact Nat.mod_eq_of_lt (by omega)
  rw [BitVec.toInt_eq_toNat_of_lt (by rw [e]; omega), e]

/-- Writing one mark. -/
theorem mark_at (x : IVec S5000 1) (idx : IVec S1 32) (u : IVec S_ 1) (k e : Fin 5000) (h : idx (ix1 0) = BitVec.ofNat 32 k.val) :
    Host.scatter scatter_S5000_S1_S__n_0_0_0 (fun _ b => b) x idx u (ix1 e) = if e = k then u ix0 else x (ix1 e) := by
  have hi : (idx (ix1 0)).toInt = (k.val : Int) := by rw [h]; exact toInt_small k.val k.isLt
  have l := fun e' => Routing.lands_one scatter_S5000_S1_S__n_0_0_0 rfl rfl idx k hi e'
  by_cases c : e = k
  · rw [if_pos c]
    exact Routing.scatter_set_hit _ x idx u (ix1 e) (u ix0) (fun j _ => congrArg u (funext fun a => a.elim0)) ix0 ((l e).2 c)
  · rw [if_neg c]
    refine Routing.scatter_set_miss _ x idx u (ix1 e) fun j hj => c ((l e).1 ?_)
    refine Eq.trans ?_ hj
    exact congrArg (fun q => ScatterDims.resultIdx? scatter_S5000_S1_S__n_0_0_0 q idx) (funext fun a => a.elim0)

theorem not_one (b : BitVec 1) : ~~~b = 1#1 ↔ ¬ b = 1#1 := by revert b; decide

/-- One row of the overlaps. -/
theorem row_of (x : FVec Ideal S5000x5000 .f32) (st : Fin 2 → Int) (k : Fin 5000) (h0 : st 0 = (k.val : Int)) (h1 : st 1 = 0) (j : Fin 5000) :
    shapeCast S5000 (Host.dynamicSlice S1x5000 x st sliceFits_S5000x5000_S1x5000) shapeCasts_S1x5000_S5000 (ix1 j) = x (ix2 k j) := by
  have hs : S5000x5000.Slices ![k.val, 0] S1x5000 := ⟨rfl, fun a => by
    have := k.isLt
    match a with
    | ⟨0, _⟩ => show k.val + 1 ≤ 5000; omega
    | ⟨1, _⟩ => show 0 + 5000 ≤ 5000; omega⟩
  rw [Host.dynamicSlice_eq_extractStridedSlice S1x5000 x st ![k.val, 0] sliceFits_S5000x5000_S1x5000 hs fun a => by
    match a with
    | ⟨0, _⟩ => exact h0
    | ⟨1, _⟩ => exact h1]
  simp only [pointwise]
  exact congrArg₂ (fun q r => x (ix2 q r)) (Fin.ext rfl) (Fin.ext (Nat.zero_add j.val))

section Trip
variable (V : Valuation τ sig (Elt Ideal)) (k : Fin 5000)

theorem slt_nat (a b : ℕ) (ha : a < 5000) (hb : b < 5000) : (BitVec.ofNat 32 a).slt (BitVec.ofNat 32 b) = true ↔ a < b := by
  rw [BitVec.slt_iff_toInt_lt, toInt_small a ha, toInt_small b hb]
  omega

/-- The marks after a trip: at the trip's position whether no earlier kept one overlaps it, elsewhere as before. -/
theorem trip_marks (h3 : V (Proc.devRef .tc main_v71_3) = constantI S_ 32 (BitVec.ofNat 32 k.val))
    (h1 : V (Proc.devRef .tc main_v71_1) = iotaInDim S5000 32 0) (K : IVec S5000 1) (h4 : V (Proc.devRef .tc main_v71_4) = K)
    (R : FVec Ideal S5000x5000 .f32) (h0 : V (Proc.devRef .tc main_v71_0) = R) (e : Fin 5000) :
    (step_main_v71_4 V (ix1 e) = 1#1 ↔ if e = k then ¬ ∃ j : Fin 5000, (Ideal.ofBits .f32 0x3F000000#32 < R (ix2 k j) ∧ K (ix1 j) = 1#1) ∧ j.val < k.val
      else K (ix1 e) = 1#1) := by
  have hw : Scalar.select (Scalar.cmpi .slt (BitVec.ofNat 32 k.val) 0#32) (Scalar.addi (BitVec.ofNat 32 k.val) (BitVec.ofNat 32 5000)) (BitVec.ofNat 32 k.val) = BitVec.ofNat 32 k.val :=
    wrap_row _ (by rw [BitVec.toNat_ofNat]; have := k.isLt; omega)
  have hr : res_main_while0b_v123 V = constantI S_ 32 (BitVec.ofNat 32 k.val) := by unfold res_main_while0b_v123; rw [h3]; rfl
  unfold step_main_v71_4
  rw [hr, h3, h1, h4, h0]
  refine (Iff.of_eq (congrArg (fun b : BitVec 1 => b = 1#1) (mark_at K _ _ k e hw))).trans ?_
  by_cases c : e = k
  · rw [if_pos c, if_pos c]
    refine (not_one _).trans (not_congr ((any_iff _ _).trans (exists_congr fun j => ?_)))
    refine (and_one _ _).trans (and_congr ((and_one _ _).trans (and_congr ?_ Iff.rfl)) ?_)
    · refine (cmp_ogt _ _).trans ?_
      rw [row_of R _ k]
      · rfl
      · show (Scalar.select (Scalar.cmpi .slt (BitVec.ofNat 32 k.val) 0#32) (Scalar.addi (BitVec.ofNat 32 k.val) (BitVec.ofNat 32 5000)) (BitVec.ofNat 32 k.val)).toInt = _
        rw [hw]
        exact toInt_small k.val k.isLt
      · rfl
    · show BitVec.ofBool ((BitVec.ofNat 32 j.val).slt (BitVec.ofNat 32 k.val)) = 1#1 ↔ _
      rw [← slt_nat j.val k.val j.isLt k.isLt]
      cases (BitVec.ofNat 32 j.val).slt (BitVec.ofNat 32 k.val) <;> decide
  · rw [if_neg c, if_neg c]

end Trip

/-! ## The loop -/

section Loop
variable (m : (ℓ : Loc nD τ sig) → Buf (Elt Ideal) ℓ) (c : Dev nD)

/-- The kernel's operands, of the reference's arguments. -/
abbrev insR : PI.Ins Ideal := PI.insOf (argB m c) (argS m c) (argL m c)

/-- What the loop carries after `k` trips. -/
structure Carried (k : ℕ) (V : Valuation τ sig (Elt Ideal)) : Prop where
  ratio : V (Proc.devRef .tc main_v71_0) = entryContents preI m c (Proc.devRef .tc main_v71_0)
  ids : V (Proc.devRef .tc main_v71_1) = iotaInDim S5000 32 0
  ctr : V (Proc.devRef .tc main_v71_3) = constantI S_ 32 (BitVec.ofNat 32 k)
  keep : ∀ e : Fin 5000, (V (Proc.devRef .tc main_v71_4) : IVec S5000 1) (ix1 e) = 1#1 ↔ e.val < k ∧ Kept (kOv (insR m c)) e.val

theorem carried_zero : Carried m c 0 (entryContents preI m c) where
  ratio := rfl
  ids := entry_ids m c
  ctr := entry_ctr m c
  keep e := by
    rw [entry_keep]
    exact ⟨fun h => absurd h (by decide : ¬ (0#1 = 1#1)), fun h => absurd h.1 (Nat.not_lt_zero _)⟩

theorem carried_succ {k : ℕ} (hk : k < 5000) {V : Valuation τ sig (Elt Ideal)} (h : Carried m c k V) : Carried m c (k + 1) (STEP V) where
  ratio := by rw [STEP_main_v71_0]; exact h.ratio
  ids := by rw [STEP_main_v71_1]; exact h.ids
  ctr := by
    rw [STEP_main_v71_3]
    unfold step_main_v71_3
    rw [h.ctr]
    exact funext fun _ => (BitVec.ofNat_add k 1).symm
  keep e := by
    rw [STEP_main_v71_4]
    refine (trip_marks V ⟨k, hk⟩ h.ctr h.ids _ rfl _ (h.ratio.trans (entry_ratio m c)) e).trans ?_
    by_cases he : e = ⟨k, hk⟩
    · rw [if_pos he, he]
      show _ ↔ k < k + 1 ∧ Kept (kOv (insR m c)) k
      rw [kept_iff]
      refine Iff.trans ?_ (and_iff_right (Nat.lt_succ_self k)).symm
      constructor
      · rintro hn ⟨j, hj, ho, hK⟩
        refine hn ⟨⟨j, hj.trans hk⟩, ⟨?_, (h.keep _).2 ⟨hj, hK⟩⟩, hj⟩
        rw [overlap_eq]
        exact ho
      · rintro hn ⟨j, ⟨ho, hK⟩, hj⟩
        rw [overlap_eq] at ho
        exact hn ⟨j.val, hj, ho, ((h.keep j).1 hK).2⟩
    · rw [if_neg he, h.keep]
      have : e.val ≠ k := fun q => he (Fin.ext q)
      constructor
      · rintro ⟨a, b⟩; exact ⟨by omega, b⟩
      · rintro ⟨a, b⟩; exact ⟨by omega, b⟩

theorem carried_all : ∀ k, k ≤ 5000 → Carried m c k (STEP^[k] (entryContents preI m c))
  | 0, _ => carried_zero m c
  | k + 1, hk => by
    rw [Function.iterate_succ_apply']
    exact carried_succ m c (by omega) (carried_all k (by omega))

/-- The marks the loop ends with. -/
theorem keptAll_iff (e : Fin 5000) : keptAll m c (ix1 e) = 1#1 ↔ Kept (kOv (insR m c)) e.val :=
  ((carried_all m c 5000 (le_refl _)).keep e).trans (and_iff_right e.isLt)

end Loop

end Cert.Proof.Alg

end
-- ==== Proof.Alg.RefPicks.lean ====
/-
  The reference's two lists of picks over the extended reals: the 15 best of the masked scores are the kernel's 15 picks.
-/
module

public import proofs.«01_k».proof.Proof.Alg.RefKeep

@[expose] public section

noncomputable section

namespace Cert.Proof.Alg

open Cert.ReferenceIdeal Cert.ReferenceIdeal.Gen Cert.ReferenceIdeal.Value Cert.Proof.Sel Cert.Proof.RI
open Idealize.ShloMosaic Idealize.ShloMosaic.TcCoe Idealize.ShloMosaic.StableHlo
open scoped Classical

/-! ## The best of a vector -/

theorem gt_iff (a b : EReal) : FloatOps.cmpfTotal (F := Ideal) (φ := .f32) .gt a b = 1#1 ↔ b < a := cmp_ogt a b

theorem best_at (M : FVec Ideal S5000 .f32) (l : Fin 15) :
    bestOf M (ix1 l) = BitVec.ofNat 32 (down 5000 (fun k => (M (ix1 k) : EReal)) ⟨l.val, by omega⟩).val := by
  have e : bestOf M (ix1 l) = (Host.sort2 S5000 0 (fun p r : Ideal .f32 × BitVec 32 => FloatOps.cmpfTotal .gt p.1 r.1) M (iotaInDim S5000 32 0)).2 (ix1 ⟨l.val, by omega⟩) := by
    unfold bestOf Host.topK
    simp only [pointwise]
    refine congrArg₂ (fun (q : IVec S5000 32) (r : Fin 5000) => (Host.sort2 S5000 0 (fun p r : Ideal .f32 × BitVec 32 => FloatOps.cmpfTotal .gt p.1 r.1) M q).2 (ix1 r)) ?_ (Fin.ext (Nat.zero_add l.val))
    exact funext fun i => dif_pos (show 0 < S5000.rank from Nat.zero_lt_one)
  rw [e]
  generalize (⟨l.val, _⟩ : Fin 5000) = i
  have e2 : down 5000 (fun k => (M (ix1 k) : EReal)) = sortedFrom (fun k k' : Fin 5000 =>
      FloatOps.cmpfTotal (F := Ideal) (φ := .f32) .gt (M ((ix1 i : S5000.Idx).along 0 k)) (M ((ix1 i : S5000.Idx).along 0 k')) == 1#1) := by
    refine (sortedFrom_key _ (fun k => -(M (ix1 k) : EReal)) fun k k' => ?_).symm
    rw [PI.along_ix1, PI.along_ix1, beq_iff_eq]
    exact (gt_iff _ _).trans EReal.neg_lt_neg_iff.symm
  rw [e2]
  unfold Host.sort2
  rw [dif_pos (show 0 < S5000.rank from Nat.zero_lt_one)]
  exact (congrArg (iotaInDim S5000 32 0) (PI.along_ix1 (ix1 i) _)).trans rfl

/-! ## The masks -/

section
variable (m : (ℓ : Loc nD τ sig) → Buf (Elt Ideal) ℓ) (c : Dev nD)

/-- The marks moved back to the boxes. -/
theorem placed_at (S : FVec Ideal S5000 .f32) (K : IVec S5000 1) (j : Fin 5000) : placed (PI.orderOf S) K (ix1 (src S j)) = K (ix1 j) := by
  let gi : ℕ → ℕ := fun n => if h : n < 5000 then (src S ⟨n, h⟩).val else 0
  have hgi : ∀ i : Fin 5000, gi i.val = (src S i).val := fun i => dif_pos i.isLt
  refine (Routing.scatter_set scatter_S5000_S5000x1_S5000_n_0_0_1 rfl rfl rfl _ _ K gi (fun i => ?_) (fun i => ?_) (src S j) (K (ix1 j)) fun i hi => ?_).1 ⟨j, hgi j⟩
  · rw [hgi]; exact rows_at S i
  · rw [hgi]
    exact lt_trans (src S i).isLt (by decide)
  · rw [hgi] at hi
    rw [sortedFrom_injective _ (Fin.ext hi : src S i = src S j)]; rfl

theorem low_eq : Ideal.ofBits .f32 0xFF800000#32 = (⊥ : EReal) := by simp [Ideal.ofBits, Ideal.ieee]

theorem thr_pos : (⊥ : EReal) < thr := lt_of_le_of_lt bot_le minus_one

theorem masked_at (S : FVec Ideal S5000 .f32) (P : IVec S5000 1) (i : Fin 5000) :
    maskedOf S P (ix1 i) = if P (ix1 i) = 1#1 then (S (ix1 i) : EReal) else ⊥ := by
  rw [← low_eq]
  rfl

theorem good_iff (j : Fin 5000) : goodAll m c (ix1 (src (argS m c) j)) = 1#1 ↔ Kept (kOv (insR m c)) j.val ∧ kAct (insR m c) j.val := by
  refine (and_one _ _).trans (and_congr ?_ ?_)
  · rw [placed_at]
    exact keptAll_iff m c j
  · refine (cmp_oge _ _).trans ((kAct_iff _ _ _ j.val (lt_trans j.isLt (by decide))).trans ⟨fun ⟨_, h⟩ => h, fun h => ⟨j.isLt, h⟩⟩).symm

theorem bodies_iff (j : Fin 5000) : humOf (argL m c) (ix1 (src (argS m c) j)) = 1#1 ↔ kHum (insR m c) j.val := by
  refine Iff.trans ?_ (kHum_iff (argB m c) (argS m c) (argL m c) j).symm
  show BitVec.ofBool (argL m c (ix1 (src (argS m c) j)) == 0#32) = 1#1 ↔ _
  by_cases h : argL m c (ix1 (src (argS m c) j)) = 0#32
  · rw [h]; decide
  · rw [beq_false_of_ne h]
    exact ⟨fun q => absurd q (by decide), fun q => absurd q h⟩

theorem act_low (j : Fin 5000) (h : kAct (insR m c) j.val) : (⊥ : EReal) < scoreOf (argS m c) (src (argS m c) j) := by
  obtain ⟨_, ha⟩ := (kAct_iff _ _ _ j.val (lt_trans j.isLt (by decide))).1 h
  exact lt_of_lt_of_le thr_pos ha

theorem act_lt (j : ℕ) (hj : j < 5120) (h : kAct (insR m c) j) : j < 5000 := ((kAct_iff _ _ _ j hj).1 h).1

/-! ## The picks -/

theorem found_cut (q : ℕ → Prop) (g : ℕ → ℕ) (t n : ℕ) (h : ∀ j, j < t → q j → j < n) : found q g t = found (fun j => j < n ∧ q j) g t := by
  unfold found chosen
  congr 2
  refine List.filter_congr fun j hj => ?_
  have := List.mem_range.1 hj
  exact decide_eq_decide.2 ⟨fun c => ⟨h j this c, c⟩, fun c => c.2⟩

/-- A list of the best is the kernel's list, for a mark `q` of active positions. -/
theorem best_list (P : IVec S5000 1) (q : ℕ → Prop) (hq : ∀ j : Fin 5000, P (ix1 (src (argS m c) j)) = 1#1 ↔ q j.val) (ha : ∀ j, q j → kAct (insR m c) j)
    (l : Fin 15) : (filled (found q (kG (insR m c)) 5120) 30)[l.val]? = some (bestOf (maskedOf (argS m c) P) (ix1 l)).toNat := by
  rw [found_cut q _ 5120 5000 fun j hj h => act_lt m c j hj (ha j h)]
  have key := masked_sort (n := 5000) (s := scoreOf (argS m c)) (M := fun k => (maskedOf (argS m c) P (ix1 k) : EReal)) (q := fun j => j < 5000 ∧ q j)
    (fun j => by
      show (maskedOf (argS m c) P (ix1 (src (argS m c) j)) : EReal) = _
      rw [masked_at]
      by_cases h : q j.val
      · rw [if_pos ((hq j).2 h)]; exact (if_pos ⟨j.isLt, h⟩).symm
      · rw [if_neg fun k => h ((hq j).1 k)]; exact (if_neg fun k : j.val < 5000 ∧ q j.val => h k.2).symm)
    (fun j hj => act_low m c j (ha _ hj.2)) (m := 5120) (g := kG (insR m c)) (by decide) (by decide) (fun j hj => hj.1) (fun j => kG_eq _ _ _ j) l.val l.isLt
  rw [key, best_at, BitVec.toNat_ofNat, Nat.mod_eq_of_lt (lt_trans (Fin.isLt _) (by decide))]

theorem marks_hum (j : Fin 5000) : andi (goodAll m c) (humOf (argL m c)) (ix1 (src (argS m c) j)) = 1#1 ↔ kH (insR m c) j.val := by
  refine (and_one _ _).trans ((and_congr (good_iff m c j) (bodies_iff m c j)).trans ?_)
  unfold kH
  tauto

theorem marks_other (j : Fin 5000) : andi (goodAll m c) (noti (humOf (argL m c))) (ix1 (src (argS m c) j)) = 1#1 ↔ kO (insR m c) j.val := by
  refine (and_one _ _).trans ((and_congr (good_iff m c j) ((not_one _).trans (not_congr (bodies_iff m c j)))).trans ?_)
  unfold kO
  tauto

theorem down_ok : ∀ i j, i ≤ j → j < 5120 → kAct (insR m c) j → kAct (insR m c) i := fun i j => kAct_down _ _ _ i j

theorem bestH (l : Fin 15) : bestOf (maskedOf (argS m c) (andi (goodAll m c) (humOf (argL m c)))) (ix1 l) = PI.pickAt (PI.listH (insR m c)) l.val := by
  have h1 := best_list m c _ (kH (insR m c)) (marks_hum m c) (fun j h => h.1) l
  have h2 := listH_at (insR m c) (down_ok m c) l.val l.isLt
  exact BitVec.eq_of_toNat_eq (Option.some.inj (h1.symm.trans h2))

theorem bestO (l : Fin 15) : bestOf (maskedOf (argS m c) (andi (goodAll m c) (noti (humOf (argL m c))))) (ix1 l) = PI.pickAt (PI.listO (insR m c)) l.val := by
  have h1 := best_list m c _ (kO (insR m c)) (marks_other m c) (fun j h => h.1) l
  have h2 := listO_at (insR m c) (down_ok m c) l.val l.isLt
  exact BitVec.eq_of_toNat_eq (Option.some.inj (h1.symm.trans h2))

/-- The kernel's pick for a result row. -/
def pickRow (r : Fin 30) : BitVec 32 := if r.val < 15 then PI.pickAt (PI.listH (insR m c)) r.val else PI.pickAt (PI.listO (insR m c)) (r.val - 15)

/-- The reference's picks are the kernel's. -/
theorem picks_at (r : Fin 30) : picksAll m c (ix1 r) = pickRow m c r := by
  unfold picksAll bothOf pickRow
  simp only [pointwise]
  by_cases h : r.val < 15
  · rw [dif_pos h, if_pos h]
    exact bestH m c ⟨r.val, h⟩
  · rw [dif_neg h, if_neg h]
    exact bestO m c ⟨r.val - 15, by omega⟩

theorem best_lt (M : FVec Ideal S5000 .f32) (l : Fin 15) : (bestOf M (ix1 l)).toNat < 5000 := by
  rw [best_at, BitVec.toNat_ofNat]
  exact lt_of_le_of_lt (Nat.mod_le _ _) (Fin.isLt _)

theorem pickRow_lt (r : Fin 30) : (pickRow m c r).toNat < 5000 := by
  unfold pickRow
  by_cases h : r.val < 15
  · rw [if_pos h, ← bestH m c ⟨r.val, h⟩]
    exact best_lt _ _
  · rw [if_neg h, ← bestO m c ⟨r.val - 15, by omega⟩]
    exact best_lt _ _

end

end Cert.Proof.Alg

end
-- ==== Proof.Alg.Output.lean ====
/-
  The two results over the extended reals: the kernel's rows hold the picks, the squashed scores and the boxes, so what the host
  lines make of them is the reference's result.
-/
module

public import proofs.«01_k».proof.Proof.Alg.RefPicks

@[expose] public section

noncomputable section

namespace Cert.Proof.Alg

open Cert.KernelIdeal Cert.KernelIdeal.Gen Cert.Proof.Sel Cert.Proof.RI
open Idealize.ShloMosaic Idealize.ShloMosaic.TcCoe

/-! ## One row of the kernel's result -/

theorem pick_at (k : ℕ) (hk : k < 128) (x : EReal) (l : Fin 128) : PI.pick (F := Ideal) (BitVec.ofNat 32 k) x (ix2 0 l) = if l.val = k then x else (0 : EReal) := by
  unfold PI.pick
  rw [PI.select_at]
  have e : (BitVec.ofNat 32 k).toNat = k := by rw [BitVec.toNat_ofNat]; exact Nat.mod_eq_of_lt (by omega)
  have h := PI.lane_eq (ix2 0 l) (BitVec.ofNat 32 k)
  rw [e] at h
  by_cases c : l.val = k
  · rw [if_pos (h.2 c), if_pos c]; rfl
  · rw [if_neg (fun q => c (h.1 q)), if_neg c, ← Ideal.ofBits_zero_f32]; rfl

section
variable (B : FVec Ideal S5000x4 .f32) (S : FVec Ideal S5000 .f32) (L : IVec S5000 32) (oi : BitVec 32) (ho : oi.toNat < 5000)
include ho

theorem ext_in (x : S5000.Idx → Ideal .f32) (z : S_.Idx → Ideal .f32) :
    PI.extF (F := Ideal) (PI.row (PI.padded x z) (PI.rowIx oi)) (Scalar.andi oi 127#32) = x (ix1 ⟨oi.toNat, ho⟩) := by
  rw [ext_pos _ _ (lt_trans ho (by decide)), at40_padded _ _ _ (lt_trans ho (by decide)), dif_pos ho]

/-- The value in a lane of a row. -/
theorem outOf_at (l : Fin 128) : PI.outOf (PI.insOf B S L) oi (ix2 0 l) =
    ((if l.val = 0 then (((oi.toInt : ℝ)) : EReal) else 0)
      + (if l.val = 1 then Ideal.div (Ideal.ofBits .f32 0x3F800000#32) (Ideal.ofBits .f32 0x3F800000#32 + Ideal.exp (0 - S (ix1 ⟨oi.toNat, ho⟩))) else 0)
      + (if l.val = 2 then B (ix2 ⟨oi.toNat, ho⟩ 0) else 0) + (if l.val = 3 then B (ix2 ⟨oi.toNat, ho⟩ 1) else 0)
      + (if l.val = 4 then B (ix2 ⟨oi.toNat, ho⟩ 2) else 0) + (if l.val = 5 then B (ix2 ⟨oi.toNat, ho⟩ 3) else 0) : EReal) := by
  have e : PI.outOf (PI.insOf B S L) oi (ix2 0 l) = (PI.pick (F := Ideal) (BitVec.ofNat 32 0) (((oi.toInt : ℝ)) : EReal) (ix2 0 l)
      + PI.pick (F := Ideal) (BitVec.ofNat 32 1) (Ideal.div (Ideal.ofBits .f32 0x3F800000#32) (Ideal.ofBits .f32 0x3F800000#32 + Ideal.exp (Ideal.ofBits .f32 0x00000000#32 - PI.extF (F := Ideal) (PI.row (PI.insOf B S L).os (PI.rowIx oi)) (Scalar.andi oi 127#32)))) (ix2 0 l)
      + PI.pick (F := Ideal) (BitVec.ofNat 32 2) (PI.extF (PI.row (PI.insOf B S L).ox0 (PI.rowIx oi)) (Scalar.andi oi 127#32)) (ix2 0 l)
      + PI.pick (F := Ideal) (BitVec.ofNat 32 3) (PI.extF (PI.row (PI.insOf B S L).oy0 (PI.rowIx oi)) (Scalar.andi oi 127#32)) (ix2 0 l)
      + PI.pick (F := Ideal) (BitVec.ofNat 32 4) (PI.extF (PI.row (PI.insOf B S L).ox1 (PI.rowIx oi)) (Scalar.andi oi 127#32)) (ix2 0 l)
      + PI.pick (F := Ideal) (BitVec.ofNat 32 5) (PI.extF (PI.row (PI.insOf B S L).oy1 (PI.rowIx oi)) (Scalar.andi oi 127#32)) (ix2 0 l) : EReal) := rfl
  have x0 := ext_in oi ho (PI.col0 B) (constant S_ .f32 0x00000000#32)
  have y0 := ext_in oi ho (PI.col1 B) (constant S_ .f32 0x00000000#32)
  have x1 := ext_in oi ho (PI.col2 B) (constant S_ .f32 0x00000000#32)
  have y1 := ext_in oi ho (PI.col3 B) (constant S_ .f32 0x00000000#32)
  have s := ext_in oi ho S (constant S_ .f32 0x00000000#32)
  rw [col0_at] at x0; rw [col1_at] at y0; rw [col2_at] at x1; rw [col3_at] at y1
  rw [e, pick_at 0 (by decide), pick_at 1 (by decide), pick_at 2 (by decide), pick_at 3 (by decide), pick_at 4 (by decide), pick_at 5 (by decide),
    show PI.extF (F := Ideal) (PI.row (PI.insOf B S L).ox0 (PI.rowIx oi)) (Scalar.andi oi 127#32) = _ from x0,
    show PI.extF (F := Ideal) (PI.row (PI.insOf B S L).oy0 (PI.rowIx oi)) (Scalar.andi oi 127#32) = _ from y0,
    show PI.extF (F := Ideal) (PI.row (PI.insOf B S L).ox1 (PI.rowIx oi)) (Scalar.andi oi 127#32) = _ from x1,
    show PI.extF (F := Ideal) (PI.row (PI.insOf B S L).oy1 (PI.rowIx oi)) (Scalar.andi oi 127#32) = _ from y1,
    show PI.extF (F := Ideal) (PI.row (PI.insOf B S L).os (PI.rowIx oi)) (Scalar.andi oi 127#32) = _ from s, Ideal.ofBits_zero_f32]

end

/-! ## Reading the kernel's result -/

/-- A small natural number, made real and back. -/
theorem round_trip (v : BitVec 32) (h : v.toNat < 5000) : FloatOps.fptosi (F := Ideal) (φ := .f32) 32 ((((v.toInt : ℝ)) : EReal)) = v := by
  have e : v.toInt = (v.toNat : Int) := BitVec.toInt_eq_toNat_of_lt (by omega)
  show BitVec.ofInt 32 (Ideal.toIntClamped _ _ (((v.toInt : ℝ)) : EReal)) = v
  rw [Ideal.toIntClamped_coe, Int.floor_intCast, Int.ceil_intCast, ite_self, e]
  have : max (-((2 ^ (32 - 1) : ℕ) : Int)) (min (((2 ^ (32 - 1) : ℕ) : Int) - 1) (v.toNat : Int)) = (v.toNat : Int) := by
    have : ((2 ^ (32 - 1) : ℕ) : Int) = 2147483648 := by norm_num
    rw [this]
    omega
  rw [this, BitVec.ofInt_natCast, BitVec.ofNat_toNat, BitVec.setWidth_eq]

section
variable (B : FVec Ideal S5000x4 .f32) (S : FVec Ideal S5000 .f32) (L : IVec S5000 32) (H : FVec Ideal S5000x256 .f32)
variable (v : IVec S30 32) (hlt : ∀ r : Fin 30, (v (ix1 r)).toNat < 5000)
variable (O : FVec Ideal S30x128 .f32) (hO : ∀ (r : Fin 30) (l : Fin 128), O (ix2 r l) = PI.outOf (PI.insOf B S L) (v (ix1 r)) (ix2 0 l))
include hlt hO

theorem lane0 (r : Fin 30) : O (ix2 r 0) = ((((v (ix1 r)).toInt : ℝ)) : EReal) := by
  rw [hO, outOf_at _ _ _ _ (hlt r)]
  simp

theorem picked_eq : PI.pickedOf O = v := by
  funext i
  obtain ⟨r, rfl⟩ : ∃ r : Fin 30, i = ix1 r := ⟨i 0, eq_ix1 i⟩
  have e : PI.pickedOf O (ix1 r) = FloatOps.fptosi (F := Ideal) (φ := .f32) 32 (O (ix2 r 0)) := by
    unfold PI.pickedOf
    simp only [pointwise]
    exact congrArg (fun q => FloatOps.fptosi (F := Ideal) (φ := .f32) 32 (O (ix2 q 0))) (Fin.ext (Nat.zero_add r.val))
  rw [e, lane0 B S L v hlt O hO]
  exact round_trip _ (hlt r)

omit hO in
theorem rows30_at (r : Fin 30) : rows30 v (ix2 r 0) = BitVec.ofNat 32 (v (ix1 r)).toNat := by
  have e : rows30 v (ix2 r 0) = Scalar.select (Scalar.cmpi .slt (v (ix1 r)) 0#32) (Scalar.addi (v (ix1 r)) 5000#32) (v (ix1 r)) := by
    unfold rows30
    simp only [pointwise]
    rfl
  rw [e, BitVec.ofNat_toNat, BitVec.setWidth_eq]
  exact wrap_row (n := 5000) _ (lt_trans (hlt r) (by decide))

theorem squash_eq : (fun i => shapeCast S30 (extractStridedSlice S30x1 ![0, 1] O slices_S30x128_S30x1_0_1) shapeCasts_S30x1_S30 i) = squashOf S v := by
  funext i
  obtain ⟨r, rfl⟩ : ∃ r : Fin 30, i = ix1 r := ⟨i 0, eq_ix1 i⟩
  have e : shapeCast S30 (extractStridedSlice S30x1 ![0, 1] O slices_S30x128_S30x1_0_1) shapeCasts_S30x1_S30 (ix1 r) = O (ix2 r 1) := by
    simp only [pointwise]
    exact congrArg (fun q => O (ix2 q 1)) (Fin.ext (Nat.zero_add r.val))
  have g : Host.gather Cert.ReferenceIdeal.gather_S5000_S30x1_S30_n_0_n_n_0_1_1 S (rows30 v) (ix1 r) = S (ix1 ⟨(v (ix1 r)).toNat, hlt r⟩) :=
    Routing.gather_take1 _ rfl rfl rfl rfl S _ r ⟨(v (ix1 r)).toNat, hlt r⟩ (rows30_at v hlt r) (by decide)
  have e2 : squashOf S v (ix1 r) = Ideal.div (Ideal.ofBits .f32 0x3F800000#32) (Ideal.ofBits .f32 0x3F800000#32
      + Ideal.exp (-(Host.gather Cert.ReferenceIdeal.gather_S5000_S30x1_S30_n_0_n_n_0_1_1 S (rows30 v) (ix1 r) : EReal))) := by
    unfold squashOf
    simp only [pointwise]
  rw [e, e2, g, hO, outOf_at _ _ _ _ (hlt r)]
  simp

theorem boxes_eq : extractStridedSlice S30x4 ![0, 2] O slices_S30x128_S30x4_0_2 = boxesOf B v := by
  funext i
  obtain ⟨r, a, rfl⟩ : ∃ (r : Fin 30) (a : Fin 4), i = ix2 r a := ⟨i 0, i 1, eq_ix2 i⟩
  have e : extractStridedSlice S30x4 ![0, 2] O slices_S30x128_S30x4_0_2 (ix2 r a) = O (ix2 r ⟨2 + a.val, by omega⟩) := by
    simp only [pointwise]
    exact congrArg (fun q => O (ix2 q _)) (Fin.ext (Nat.zero_add r.val))
  have g : boxesOf B v (ix2 r a) = B (ix2 ⟨(v (ix1 r)).toNat, hlt r⟩ a) :=
    Routing.gather_row _ rfl rfl rfl rfl rfl B _ r a ⟨(v (ix1 r)).toNat, hlt r⟩ (rows30_at v hlt r) (by decide)
  rw [e, g, hO, outOf_at _ _ _ _ (hlt r)]
  match a with
  | ⟨0, _⟩ => simp
  | ⟨1, _⟩ => simp
  | ⟨2, _⟩ => simp
  | ⟨3, _⟩ => simp

/-- The host lines after the kernel make the reference's result of the kernel's rows. -/
theorem res_eq : PI.resOf H O = joined (scaledOf S H v) (boxesOf B v) := by
  unfold PI.resOf
  rw [picked_eq B S L v hlt O hO, squash_eq B S L v hlt O hO, boxes_eq B S L v hlt O hO]
  rfl

end

section
variable (m : (ℓ : Loc Cert.ReferenceIdeal.nD Cert.ReferenceIdeal.τ Cert.ReferenceIdeal.sig) → Buf (Elt Ideal) ℓ) (c : Dev Cert.ReferenceIdeal.nD)

/-- The two results agree. -/
theorem results_agree : PI.resOf (argH m c) (PI.outAll (insR m c)) = joined (scaledOf (argS m c) (argH m c) (picksAll m c)) (boxesOf (argB m c) (picksAll m c)) := by
  refine res_eq (argB m c) (argS m c) (argL m c) (argH m c) (picksAll m c) (fun r => by rw [picks_at]; exact pickRow_lt m c r) _ fun r l => ?_
  rw [picks_at]
  unfold PI.outAll pickRow
  show (if r.val < 15 then _ else _) = _
  by_cases h : r.val < 15
  · rw [if_pos h, if_pos h]; rfl
  · rw [if_neg h, if_neg h]; rfl

end

/-- The kernel's result, of a memory's arguments. -/
def kernelRes (m : (ℓ : Loc nD τ sig) → Buf (Elt Ideal) ℓ) (c : Dev nD) : FVec Ideal S30x260 .f32 :=
  PI.resOf (F := Ideal) (m ((c.tc : Thread nD τ).loc main_arg2))
    (PI.outAll (F := Ideal) (PI.insOf (F := Ideal) (m ((c.tc : Thread nD τ).loc main_arg0)) (m ((c.tc : Thread nD τ).loc main_arg1)) (m ((c.tc : Thread nD τ).loc main_arg3))))

end Cert.Proof.Alg

end
-- ==== Proof.lean ====
/- The certificate: the frames of the three programs and the agreement of the two results, from the runs, and the claim. -/
module

public import proofs.«01_k».proof.Proof.P.Run
public import proofs.«01_k».proof.Proof.PI.Run
public import proofs.«01_k».proof.Proof.RI.Frame
public import proofs.«01_k».proof.Proof.Alg.Output
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel as written runs, and leaves its arguments alone. -/
theorem frame_P : Cert.quiescent_Kernel (hKernel := Cert.Kernel.Gen.facts) := fun m g _ =>
  (θ_run Cert.Kernel.defs _ _).mono (fun _ h => ⟨fun c => (h.1 c).2, h.2⟩) (P.run (F := Bits) m g)

/-- So does the kernel over the extended reals, -/
theorem frame_PI : Cert.quiescent_KernelIdeal (hKernelIdeal := Cert.KernelIdeal.Gen.facts) := fun m g _ =>
  (θ_run Cert.KernelIdeal.defs _ _).mono (fun _ h => ⟨fun c => (h.1 c).2, h.2⟩) (PI.run (F := Ideal) m g)

/-- and the reference. -/
theorem frame_RI : Cert.quiescent_ReferenceIdeal (hReferenceIdeal := Cert.ReferenceIdeal.Gen.facts) := fun m g _ =>
  (θ_run Cert.ReferenceIdeal.defs _ _).mono (fun _ h => ⟨fun c => (h.1 c).2, h.2⟩) (RI.run (F := Ideal) m g)

/-- The kernel and the reference end with equal results over the extended reals. -/
theorem algebraic : Cert.algebraic_KernelIdeal_ReferenceIdeal (hKernelIdeal := Cert.KernelIdeal.Gen.facts) (hReferenceIdeal := Cert.ReferenceIdeal.Gen.facts) :=
  fun m g m' g' _ hargs => by
  refine ⟨fun c => Alg.kernelRes m c, ?_, ?_⟩
  · exact (θ_run Cert.KernelIdeal.defs _ _).mono (fun _ h => h.1) (PI.run (F := Ideal) m g)
  · refine (θ_run Cert.ReferenceIdeal.defs _ _).mono (fun _ h c => ⟨(h.1 c).1.trans ?_, (h.1 c).2⟩) (RI.run (F := Ideal) m' g')
    obtain ⟨h0, h1, h2, h3⟩ := hargs c
    rw [RI.final_res, ← Alg.results_agree]
    unfold Alg.kernelRes Alg.insR RI.argB RI.argS RI.argH RI.argL
    rw [h0, h1, h2, h3]

/-- Everything claimed. -/
theorem claim : Cert.Claim :=
  ⟨Cert.Kernel.Gen.facts, Cert.KernelIdeal.Gen.facts, Cert.ReferenceIdeal.Gen.facts, frame_P, frame_PI, frame_RI, trivial, algebraic⟩

end Cert.Proof

end
